-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_in_range [hPre_bias_in_range : Cert.Pre_bias_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_bias_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_in_range [hPre_bias_in_range : Cert.Pre_bias_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bias_in_range [hKernelIdeal : Cert.KernelIdeal.Facts] [hPre_bias_in_range : Cert.Pre_bias_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bias_in_range [hReferenceIdeal : Cert.ReferenceIdeal.Facts] [hPre_bias_in_range : Cert.Pre_bias_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S128x1024 Cert.KernelIdeal.S64x1024
  ∧ IdealRules.bf16_pair.SelectZeroStatement Cert.KernelIdeal.S64x1024

def algebraic_KernelIdeal_ReferenceIdeal_pre_bias_in_range [hKernelIdeal : Cert.KernelIdeal.Facts] [hReferenceIdeal : Cert.ReferenceIdeal.Facts] [hPre_bias_in_range : Cert.Pre_bias_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bias_in_range : Cert.Pre_bias_in_range.Facts),
    quiescent_Kernel (hKernel := hKernel)
    ∧ quiescent_KernelIdeal (hKernelIdeal := hKernelIdeal)
    ∧ quiescent_KernelIdeal_pre_bias_in_range (hKernelIdeal := hKernelIdeal) (hPre_bias_in_range := hPre_bias_in_range)
    ∧ quiescent_ReferenceIdeal (hReferenceIdeal := hReferenceIdeal)
    ∧ quiescent_ReferenceIdeal_pre_bias_in_range (hReferenceIdeal := hReferenceIdeal) (hPre_bias_in_range := hPre_bias_in_range)
    ∧ preserves_Kernel_KernelIdeal
    ∧ algebraic_KernelIdeal_ReferenceIdeal_pre_bias_in_range (hKernelIdeal := hKernelIdeal) (hReferenceIdeal := hReferenceIdeal) (hPre_bias_in_range := hPre_bias_in_range)
-- ==== Pre_bias_in_range.lean ====
abbrev S2x2048x16384 : Shape := ⟨3, ![2, 2048, 16384]⟩
abbrev S8192x5120 : Shape := ⟨2, ![8192, 5120]⟩
abbrev S128x5120 : Shape := ⟨2, ![128, 5120]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x2048x16384 .bf16) (main_arg1 : IVec S8192x5120 8) (main_arg2 : FVec F S128x5120 .f32) (main_arg3 : IVec S1 32) : IVec S1 1 :=
  let main_c : IVec S_ 32 := constantI S_ 32 2147483649#32
  let main_v0 : IVec S1 32 := broadcastInDim S1 ![] bcast_S_S1 main_c
  let main_v1 : IVec S1 1 := cmpi .sge main_arg3 main_v0
  let main_c_0 : IVec S_ 32 := constantI S_ 32 2147483645#32
  let main_v2 : IVec S1 32 := broadcastInDim S1 ![] bcast_S_S1 main_c_0
  let main_v3 : IVec S1 1 := cmpi .sle main_arg3 main_v2
  let main_v4 : IVec S1 1 := andi main_v1 main_v3
  main_v4
-- ==== Kernel.lean ====
abbrev S2x2048x16384 : Shape := ⟨3, ![2, 2048, 16384]⟩
abbrev S8192x5120 : Shape := ⟨2, ![8192, 5120]⟩
abbrev S128x5120 : Shape := ⟨2, ![128, 5120]⟩
abbrev S1 : Shape := ⟨1, ![1]⟩
abbrev S_ : Shape := ⟨0, ![]⟩
abbrev S4096x16384 : Shape := ⟨2, ![4096, 16384]⟩
abbrev S4096x5120 : Shape := ⟨2, ![4096, 5120]⟩
abbrev S4096x1024 : Shape := ⟨2, ![4096, 1024]⟩
abbrev S512x1024 : Shape := ⟨2, ![512, 1024]⟩
abbrev S8x1024 : Shape := ⟨2, ![8, 1024]⟩
abbrev S1024x1024 : Shape := ⟨2, ![1024, 1024]⟩
abbrev S64x1024 : Shape := ⟨2, ![64, 1024]⟩
abbrev S128x1024 : Shape := ⟨2, ![128, 1024]⟩
abbrev S1x1024 : Shape := ⟨2, ![1, 1024]⟩

abbrev nBuf : Space → Nat
  | .hbm => 28
  | .vmem => 10
  | .smem => 2
  | _ => 0

abbrev bufTy : (tb : Table) → Fin (tcTables nBuf tb) → BufTy
  | .hbm, ⟨0, _⟩ => ⟨S2x2048x16384, .bf16⟩
  | .hbm, ⟨1, _⟩ => ⟨S8192x5120, .i8⟩
  | .hbm, ⟨2, _⟩ => ⟨S128x5120, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S1, .i32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S4096x16384, .bf16⟩
  | .hbm, ⟨27, _⟩ => ⟨S4096x5120, .bf16⟩
  | .local _ .vmem, ⟨0, _⟩ => ⟨S4096x1024, .bf16⟩
  | .local _ .vmem, ⟨1, _⟩ => ⟨S4096x1024, .bf16⟩
  | .local _ .vmem, ⟨2, _⟩ => ⟨S512x1024, .i8⟩
  | .local _ .vmem, ⟨3, _⟩ => ⟨S512x1024, .i8⟩
  | .local _ .vmem, ⟨4, _⟩ => ⟨S8x1024, .f32⟩
  | .local _ .vmem, ⟨5, _⟩ => ⟨S8x1024, .f32⟩
  | .local _ .vmem, ⟨6, _⟩ => ⟨S4096x1024, .bf16⟩
  | .local _ .vmem, ⟨7, _⟩ => ⟨S4096x1024, .bf16⟩
  | .local _ .vmem, ⟨8, _⟩ => ⟨S1024x1024, .bf16⟩
  | .local _ .vmem, ⟨9, _⟩ => ⟨S4096x1024, .f32⟩
  | .local _ .smem, ⟨0, _⟩ => ⟨S1, .i32⟩
  | .local _ .smem, ⟨1, _⟩ => ⟨S1, .f32⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_v1 : Ref sig .tc := ⟨.hbm, 13, rfl⟩
abbrev main_v2 : Ref sig .tc := ⟨.hbm, 14, rfl⟩
abbrev main_c_2 : Ref sig .tc := ⟨.hbm, 15, rfl⟩
abbrev main_v3 : Ref sig .tc := ⟨.hbm, 16, rfl⟩
abbrev main_v4 : Ref sig .tc := ⟨.hbm, 17, rfl⟩
abbrev main_c_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![5, 16], ![false, false]⟩

def k0_cond2 (i : grid0.Coords) : BitVec 1 :=
  let arg1 : BitVec 32 := BitVec.ofNat 32 (i 1).val
  let c15_i32_205 : BitVec 32 := 15#32
  let v502 : BitVec 1 := Scalar.cmpi .eq arg1 c15_i32_205
  let v503 : BitVec 32 := Scalar.extui v502
  let c0_i32_206 : BitVec 32 := 0#32
  let v504 : BitVec 1 := Scalar.cmpi .ne v503 c0_i32_206
  v504

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F]
-- ==== ReferenceIdeal.lean ====
abbrev S2x2048x16384 : Shape := ⟨3, ![2, 2048, 16384]⟩
abbrev S8192x5120 : Shape := ⟨2, ![8192, 5120]⟩
abbrev S128x5120 : Shape := ⟨2, ![128, 5120]⟩
abbrev S1 : Shape := ⟨1, ![1]⟩
abbrev S_ : Shape := ⟨0, ![]⟩
abbrev S8192x1x5120 : Shape := ⟨3, ![8192, 1, 5120]⟩
abbrev S8192x2x5120 : Shape := ⟨3, ![8192, 2, 5120]⟩
abbrev S128x128x5120 : Shape := ⟨3, ![128, 128, 5120]⟩
abbrev S128x1x5120 : Shape := ⟨3, ![128, 1, 5120]⟩
abbrev S16384x5120 : Shape := ⟨2, ![16384, 5120]⟩
abbrev S2x2048x5120 : Shape := ⟨3, ![2, 2048, 5120]⟩
abbrev S4096x5120 : Shape := ⟨2, ![4096, 5120]⟩

abbrev nBuf : Space → Nat
  | .hbm => 132
  | .vmem => 0
  | .smem => 0
  | _ => 0

abbrev hbmTy0_0 (i : Nat) : BufTy := match i % 128 with
  | 0 => ⟨S2x2048x16384, .bf16⟩
  | 1 => ⟨S8192x5120, .i8⟩
  | 2 => ⟨S128x5120, .f32⟩
  | 3 => ⟨S1, .i32⟩
  | 4 => ⟨S_, .i32⟩
  | 5 => ⟨S8192x5120, .i32⟩
  | 6 => ⟨S_, .i32⟩
  | 7 => ⟨S8192x5120, .i32⟩
  | 8 => ⟨S8192x5120, .i32⟩
  | 9 => ⟨S_, .i32⟩
  | 10 => ⟨S8192x5120, .i32⟩
  | 11 => ⟨S8192x5120, .i32⟩
  | 12 => ⟨S_, .i32⟩
  | 13 => ⟨S8192x5120, .i32⟩
  | 14 => ⟨S8192x5120, .i1⟩
  | 15 => ⟨S_, .i32⟩
  | 16 => ⟨S8192x5120, .i32⟩
  | 17 => ⟨S8192x5120, .i1⟩
  | 18 => ⟨S_, .i32⟩
  | 19 => ⟨S8192x5120, .i32⟩
  | 20 => ⟨S8192x5120, .i32⟩
  | 21 => ⟨S_, .i32⟩
  | 22 => ⟨S8192x5120, .i32⟩
  | 23 => ⟨S8192x5120, .i32⟩
  | 24 => ⟨S_, .i32⟩
  | 25 => ⟨S8192x5120, .i32⟩
  | 26 => ⟨S8192x5120, .i32⟩
  | 27 => ⟨S_, .i32⟩
  | 28 => ⟨S8192x5120, .i32⟩
  | 29 => ⟨S8192x5120, .i32⟩
  | 30 => ⟨S_, .i32⟩
  | 31 => ⟨S8192x5120, .i32⟩
  | 32 => ⟨S8192x5120, .i32⟩
  | 33 => ⟨S8192x5120, .f32⟩
  | 34 => ⟨S8192x5120, .i32⟩
  | 35 => ⟨S8192x5120, .i32⟩
  | 36 => ⟨S_, .i32⟩
  | 37 => ⟨S8192x5120, .i32⟩
  | 38 => ⟨S8192x5120, .i32⟩
  | 39 => ⟨S8192x5120, .f32⟩
  | 40 => ⟨S_, .f32⟩
  | 41 => ⟨S8192x5120, .f32⟩
  | 42 => ⟨S8192x5120, .f32⟩
  | 43 => ⟨S8192x5120, .f32⟩
  | 44 => ⟨S_, .i32⟩
  | 45 => ⟨S8192x5120, .i32⟩
  | 46 => ⟨S8192x5120, .i32⟩
  | 47 => ⟨S_, .i32⟩
  | 48 => ⟨S8192x5120, .i32⟩
  | 49 => ⟨S8192x5120, .i32⟩
  | 50 => ⟨S8192x5120, .f32⟩
  | 51 => ⟨S8192x5120, .f32⟩
  | 52 => ⟨S_, .i32⟩
  | 53 => ⟨S8192x5120, .i32⟩
  | 54 => ⟨S8192x5120, .i1⟩
  | 55 => ⟨S8192x5120, .i32⟩
  | 56 => ⟨S_, .i32⟩
  | 57 => ⟨S8192x5120, .i32⟩
  | 58 => ⟨S8192x5120, .i32⟩
  | 59 => ⟨S8192x5120, .i32⟩
  | 60 => ⟨S8192x5120, .f32⟩
  | 61 => ⟨S8192x5120, .f32⟩
  | 62 => ⟨S_, .f32⟩
  | 63 => ⟨S8192x5120, .f32⟩
  | 64 => ⟨S8192x5120, .f32⟩
  | 65 => ⟨S_, .i32⟩
  | 66 => ⟨S8192x5120, .i32⟩
  | 67 => ⟨S8192x5120, .i1⟩
  | 68 => ⟨S_, .i32⟩
  | 69 => ⟨S8192x5120, .i32⟩
  | 70 => ⟨S8192x5120, .i1⟩
  | 71 => ⟨S_, .i32⟩
  | 72 => ⟨S8192x5120, .i32⟩
  | 73 => ⟨S8192x5120, .i32⟩
  | 74 => ⟨S_, .i32⟩
  | 75 => ⟨S8192x5120, .i32⟩
  | 76 => ⟨S8192x5120, .i32⟩
  | 77 => ⟨S_, .i32⟩
  | 78 => ⟨S8192x5120, .i32⟩
  | 79 => ⟨S8192x5120, .i32⟩
  | 80 => ⟨S_, .i32⟩
  | 81 => ⟨S8192x5120, .i32⟩
  | 82 => ⟨S8192x5120, .i32⟩
  | 83 => ⟨S_, .i32⟩
  | 84 => ⟨S8192x5120, .i32⟩
  | 85 => ⟨S8192x5120, .i32⟩
  | 86 => ⟨S8192x5120, .f32⟩
  | 87 => ⟨S8192x5120, .i32⟩
  | 88 => ⟨S8192x5120, .i32⟩
  | 89 => ⟨S_, .i32⟩
  | 90 => ⟨S8192x5120, .i32⟩
  | 91 => ⟨S8192x5120, .i32⟩
  | 92 => ⟨S8192x5120, .f32⟩
  | 93 => ⟨S_, .f32⟩
  | 94 => ⟨S8192x5120, .f32⟩
  | 95 => ⟨S8192x5120, .f32⟩
  | 96 => ⟨S8192x5120, .f32⟩
  | 97 => ⟨S_, .i32⟩
  | 98 => ⟨S8192x5120, .i32⟩
  | 99 => ⟨S8192x5120, .i32⟩
  | 100 => ⟨S_, .i32⟩
  | 101 => ⟨S8192x5120, .i32⟩
  | 102 => ⟨S8192x5120, .i32⟩
  | 103 => ⟨S8192x5120, .f32⟩
  | 104 => ⟨S8192x5120, .f32⟩
  | 105 => ⟨S_, .i32⟩
  | 106 => ⟨S8192x5120, .i32⟩
  | 107 => ⟨S8192x5120, .i1⟩
  | 108 => ⟨S8192x5120, .i32⟩
  | 109 => ⟨S_, .i32⟩
  | 110 => ⟨S8192x5120, .i32⟩
  | 111 => ⟨S8192x5120, .i32⟩
  | 112 => ⟨S8192x5120, .i32⟩
  | 113 => ⟨S8192x5120, .f32⟩
  | 114 => ⟨S8192x5120, .f32⟩
  | 115 => ⟨S_, .f32⟩
  | 116 => ⟨S8192x5120, .f32⟩
  | 117 => ⟨S8192x5120, .f32⟩
  | 118 => ⟨S8192x5120, .bf16⟩
  | 119 => ⟨S8192x5120, .bf16⟩
  | 120 => ⟨S8192x1x5120, .bf16⟩
  | 121 => ⟨S8192x1x5120, .bf16⟩
  | 122 => ⟨S8192x2x5120, .bf16⟩
  | 123 => ⟨S128x5120, .bf16⟩
  | 124 => ⟨S128x128x5120, .bf16⟩
  | 125 => ⟨S128x1x5120, .bf16⟩
  | 126 => ⟨S128x128x5120, .bf16⟩
  | 127 => ⟨S128x128x5120, .bf16⟩
  | _ => ⟨S2x2048x16384, .bf16⟩

abbrev hbmTy0_1 (i : Nat) : BufTy := match i % 128 with
  | 0 => ⟨S16384x5120, .bf16⟩
  | 1 => ⟨S2x2048x5120, .f32⟩
  | 2 => ⟨S2x2048x5120, .bf16⟩
  | 3 => ⟨S4096x5120, .bf16⟩
  | _ => ⟨S2x2048x16384, .bf16⟩

abbrev hbmTy (i : Nat) : BufTy := match i / 128 with
  | 0 => hbmTy0_0 i
  | 1 => hbmTy0_1 i
  | _ => ⟨S2x2048x16384, .bf16⟩

abbrev bufTy : (tb : Table) → Fin (tcTables nBuf tb) → BufTy
  | .hbm, ⟨i, _⟩ => hbmTy i
  | _, _ => ⟨S2x2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_9 : Ref sig .tc := ⟨.hbm, 44, rfl⟩
abbrev main_v29 : Ref sig .tc := ⟨.hbm, 45, rfl⟩
abbrev main_v30 : Ref sig .tc := ⟨.hbm, 46, rfl⟩
abbrev main_c_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_call1_v0 : Ref sig .tc := ⟨.hbm, 63, rfl⟩
abbrev main_v43 : Ref sig .tc := ⟨.hbm, 64, rfl⟩
abbrev main_c_14 : Ref sig .tc := ⟨.hbm, 65, rfl⟩
abbrev main_v44 : Ref sig .tc := ⟨.hbm, 66, rfl⟩
abbrev main_v45 : Ref sig .tc := ⟨.hbm, 67, rfl⟩
abbrev main_c_15 : Ref sig .tc := ⟨.hbm, 68, rfl⟩
abbrev main_v46 : Ref sig .tc := ⟨.hbm, 69, rfl⟩
abbrev main_v47 : Ref sig .tc := ⟨.hbm, 70, rfl⟩
abbrev main_c_16 : Ref sig .tc := ⟨.hbm, 71, rfl⟩
abbrev main_v48 : Ref sig .tc := ⟨.hbm, 72, rfl⟩
abbrev main_v49 : Ref sig .tc := ⟨.hbm, 73, rfl⟩
abbrev main_c_17 : Ref sig .tc := ⟨.hbm, 74, rfl⟩
abbrev main_v50 : Ref sig .tc := ⟨.hbm, 75, rfl⟩
abbrev main_v51 : Ref sig .tc := ⟨.hbm, 76, rfl⟩
abbrev main_c_18 : Ref sig .tc := ⟨.hbm, 77, rfl⟩
abbrev main_v52 : Ref sig .tc := ⟨.hbm, 78, rfl⟩
abbrev main_v53 : Ref sig .tc := ⟨.hbm, 79, rfl⟩
abbrev main_c_19 : Ref sig .tc := ⟨.hbm, 80, rfl⟩
abbrev main_v54 : Ref sig .tc := ⟨.hbm, 81, rfl⟩
abbrev main_v55 : Ref sig .tc := ⟨.hbm, 82, rfl⟩
abbrev main_c_20 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_21 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_22 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_23 : Ref sig .tc := ⟨.hbm, 97, rfl⟩
abbrev main_v67 : Ref sig .tc := ⟨.hbm, 98, rfl⟩
abbrev main_v68 : Ref sig .tc := ⟨.hbm, 99, rfl⟩
abbrev main_c_24 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_25 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_26 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_27 : Ref sig .tc := ⟨.hbm, 115, rfl⟩
abbrev main_call3_v0 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]
-- ==== Proof.Bits.lean ====
/- The words the kernel builds from one byte of codes, half by half, by their three bf16 fields. -/
module

public import Idealize.ShloMosaic.PureOps.Ideal

@[expose] public section

noncomputable section

namespace Cert.Decode

open Idealize.ShloMosaic

/-! ## The words the kernel builds -/

/-- A byte's two codes at bits 0 and 16 of a word. -/
def codeWord (b : BitVec 8) : BitVec 32 := (b.setWidth 32 &&& 15#32) ||| ((b.setWidth 32 &&& 240#32) <<< 12)

/-- The word of two outliers at field bias word `v`. -/
def outWord (b : BitVec 8) (v : BitVec 32) : BitVec 32 :=
  (((codeWord b &&& 458759#32) <<< 6) + v) ||| ((codeWord b &&& 524296#32) <<< 12)

/-- The code at half `p`. -/
def code (b : BitVec 8) (p : Nat) : Nat := if p = 0 then b.toNat % 16 else b.toNat / 16

theorem code_lt (b : BitVec 8) (p : Nat) : code b p < 16 := by
  have := b.isLt
  unfold code; split <;> omega

/-- The halves of the word of two signed integers. -/
theorem normal_bits : ∀ n < 256, ∀ p < 2,
    (codeWord (BitVec.ofNat 8 n) ^^^ 1124614920#32).extractLsb' (16 * p) 16
      = BitVec.ofNat 16 (0 * 32768 + 134 * 128 + (code (BitVec.ofNat 8 n) p + 8) % 16) := by
  decide +kernel

/-- The halves of the word of two outliers. -/
theorem out_bits : ∀ n < 256, ∀ E < 252, ∀ p < 2,
    (outWord (BitVec.ofNat 8 n) ((BitVec.ofNat 32 E <<< 7) * 65537#32)).extractLsb' (16 * p) 16
      = BitVec.ofNat 16 ((code (BitVec.ofNat 8 n) p / 8) * 32768 + (code (BitVec.ofNat 8 n) p % 8 / 2 + E) * 128
          + 64 * (code (BitVec.ofNat 8 n) p % 2)) := by
  decide +kernel

end Cert.Decode
-- ==== Proof.Decode.lean ====
/- One byte of codes as two real numbers: the bit fields the kernel builds, read as bf16 numbers. -/
module

public import Idealize.ShloMosaic.PureOps.Ideal
public import Idealize.ShloMosaic.Lib.Pointwise
public import proofs.«01_k».proof.Proof.Bits

@[expose] public section

noncomputable section

namespace Cert.Decode

open Idealize.ShloMosaic

/-- A four-bit code as a signed integer. -/
def signed (c : Nat) : ℝ := if 8 ≤ c then (c : ℝ) - 16 else (c : ℝ)

/-- A four-bit code as an outlier: sign, two exponent bits, one mantissa bit, at exponent bias `bias`. -/
def outlier (c : Nat) (bias : Int) : ℝ :=
  (if 8 ≤ c then -1 else 1) * ((2 + (c % 2 : Nat)) * (2 : ℝ) ^ (((c % 8 / 2 : Nat) : Int) + bias - 1))

/-- What a code `own` stands for beside its pair's other code `other`: the victim code 8 is zero, the code beside a
    victim is an outlier, any other pair is two signed integers. -/
def half (own other : Nat) (bias : Int) : ℝ :=
  if own = 8 then 0 else if other = 8 then outlier own bias else signed own

/-- Half `p` of a byte: the low code for `p = 0`, the high code otherwise. -/
def weight (b : BitVec 8) (p : Nat) (bias : Int) : ℝ :=
  if p = 0 then half (b.toNat % 16) (b.toNat / 16) bias else half (b.toNat / 16) (b.toNat % 16) bias

/-! ## Their real values -/

/-- A normal bf16 number by its three fields. -/
theorem bf16_fields (s E f : Nat) (hs : s < 2) (h0 : 0 < E) (hE : E < 255) (hf : f < 128) :
    Ideal.ofBits .bf16 (BitVec.ofNat 16 (s * 32768 + E * 128 + f))
      = (((if s = 1 then -1 else 1) * ((128 + f : Nat) : ℝ) * (2 : ℝ) ^ ((E : Int) - 134) : ℝ) : EReal) := by
  have e1 : (BitVec.extractLsb' 15 1 (BitVec.ofNat 16 (s * 32768 + E * 128 + f)) == 1#1) = decide (s = 1) := by
    have : BitVec.extractLsb' 15 1 (BitVec.ofNat 16 (s * 32768 + E * 128 + f)) = BitVec.ofNat 1 s := by
      apply BitVec.eq_of_toNat_eq
      simp only [BitVec.extractLsb'_toNat, BitVec.toNat_ofNat, Nat.shiftRight_eq_div_pow]
      omega
    rw [this]
    have : s = 0 ∨ s = 1 := by omega
    rcases this with rfl | rfl <;> rfl
  have e2 : (BitVec.extractLsb' 7 8 (BitVec.ofNat 16 (s * 32768 + E * 128 + f))).toNat = E := by
    simp only [BitVec.extractLsb'_toNat, BitVec.toNat_ofNat, Nat.shiftRight_eq_div_pow]
    omega
  have e3 : (BitVec.extractLsb' 0 7 (BitVec.ofNat 16 (s * 32768 + E * 128 + f))).toNat = f := by
    simp only [BitVec.extractLsb'_toNat, BitVec.toNat_ofNat, Nat.shiftRight_eq_div_pow]
    omega
  have e4 : ((E : Int) - 127 - 7) = (E : Int) - 134 := by ring
  unfold Ideal.ofBits Ideal.ieee
  simp only [Nat.reduceAdd, e1, e2, e3]
  rw [if_neg (by omega), if_neg (by omega)]
  norm_num
  rw [e4]

/-- A power of two as an f32 number. -/
theorem f32_power (R : Nat) (h0 : 0 < R) (h1 : R < 255) :
    Ideal.ofBits .f32 (BitVec.ofNat 32 R <<< 23) = (((2 : ℝ) ^ ((R : Int) - 127) : ℝ) : EReal) := by
  have e1 : (BitVec.extractLsb' 31 1 (BitVec.ofNat 32 R <<< 23) == 1#1) = false := by
    have : BitVec.extractLsb' 31 1 (BitVec.ofNat 32 R <<< 23) = 0#1 := by
      apply BitVec.eq_of_toNat_eq
      simp only [BitVec.extractLsb'_toNat, BitVec.toNat_ofNat, BitVec.toNat_shiftLeft, Nat.shiftLeft_eq, Nat.shiftRight_eq_div_pow]
      omega
    rw [this]; rfl
  have e2 : (BitVec.extractLsb' 23 8 (BitVec.ofNat 32 R <<< 23)).toNat = R := by
    simp only [BitVec.extractLsb'_toNat, BitVec.toNat_ofNat, BitVec.toNat_shiftLeft, Nat.shiftLeft_eq, Nat.shiftRight_eq_div_pow]
    omega
  have e3 : (BitVec.extractLsb' 0 23 (BitVec.ofNat 32 R <<< 23)).toNat = 0 := by
    simp only [BitVec.extractLsb'_toNat, BitVec.toNat_ofNat, BitVec.toNat_shiftLeft, Nat.shiftLeft_eq, Nat.shiftRight_eq_div_pow]
    omega
  unfold Ideal.ofBits Ideal.ieee
  simp only [Nat.reduceAdd, e1, e2, e3]
  rw [if_neg (by omega), if_neg (by omega)]
  refine congrArg (fun x : ℝ => (x : EReal)) ?_
  rw [show ((R : Int) - 127) = 23 + ((R : Int) - 127 - 23) by ring, zpow_add₀ two_ne_zero]
  rw [show (((2 : Int) ^ (8 - 1) - 1 : Int)) = 127 by norm_num]
  norm_num

/-- A code as a signed integer, out of the kernel's word. -/
theorem normal_half (b : BitVec 8) (p : Nat) (hp : p < 2) :
    Ideal.ofBits .bf16 ((codeWord b ^^^ 1124614920#32).extractLsb' (16 * p) 16) - Ideal.ofBits .bf16 0x4308#16
      = ((signed (code b p) : ℝ) : EReal) := by
  have h := normal_bits b.toNat b.isLt p hp
  rw [BitVec.ofNat_toNat, BitVec.setWidth_eq] at h
  have h1 : (0x4308#16 : BitVec 16) = BitVec.ofNat 16 (0 * 32768 + 134 * 128 + 8) := rfl
  rw [h, h1, bf16_fields _ _ _ (by decide) (by decide) (by decide) (by omega),
    bf16_fields _ _ _ (by decide) (by decide) (by decide) (by omega), ← EReal.coe_sub]
  congr 1
  have hc := code_lt b p
  unfold signed
  by_cases h8 : 8 ≤ code b p
  · obtain ⟨d, hd⟩ := Nat.exists_eq_add_of_le h8
    rw [if_pos h8, show (code b p + 8) % 16 = d by omega, hd]
    push_cast
    norm_num
    ring
  · rw [if_neg h8, show (code b p + 8) % 16 = code b p + 8 by omega]
    push_cast
    norm_num
    ring

/-- A code as an outlier, out of the kernel's word at field bias `E - 127` and the residual power `2 ^ r`. -/
theorem out_half (b : BitVec 8) (p : Nat) (hp : p < 2) (E : Nat) (h0 : 0 < E) (hE : E < 252) (r : Int) :
    Ideal.ofBits .bf16 ((outWord b ((BitVec.ofNat 32 E <<< 7) * 65537#32)).extractLsb' (16 * p) 16)
        * (((2 : ℝ) ^ r : ℝ) : EReal)
      = ((outlier (code b p) ((E : Int) - 127 + r) : ℝ) : EReal) := by
  have h := out_bits b.toNat b.isLt E hE p hp
  rw [BitVec.ofNat_toNat, BitVec.setWidth_eq] at h
  have hc := code_lt b p
  rw [h, bf16_fields _ _ _ (by omega) (by omega) (by omega) (by omega), ← EReal.coe_mul]
  congr 1
  unfold outlier
  have hs : (code b p / 8 = 1) = (8 ≤ code b p) := by apply propext; omega
  have hm : ((128 + 64 * (code b p % 2) : Nat) : ℝ) = 2 ^ (6 : Int) * (2 + (code b p % 2 : Nat)) := by
    push_cast; norm_num; ring
  simp only [hs]
  rw [hm, mul_assoc, mul_assoc, mul_comm ((2 : ℝ) ^ (6 : Int)), mul_assoc, ← zpow_add₀ two_ne_zero, ← zpow_add₀ two_ne_zero]
  congr 3
  push_cast
  ring

/-- The f32 literal two. -/
theorem two : FloatOps.ofBits (F := Ideal) .f32 0x40000000#32 = ((2 : ℝ) : EReal) := by
  have h := f32_power 128 (by decide) (by decide)
  rw [show ((2 : ℝ) ^ (((128 : Nat) : Int) - 127)) = 2 by norm_num] at h
  exact h

/-- The host's power of two with a whole exponent. -/
theorem host_power (w : BitVec 32) :
    FloatOps.hostPowf (F := Ideal) (φ := .f32) (FloatOps.ofBits .f32 0x40000000#32) (FloatOps.sitofp .f32 w)
      = (((2 : ℝ) ^ w.toInt : ℝ) : EReal) := by
  rw [two]
  show ((Real.rpow 2 (((w.toInt : Int) : ℝ)) : ℝ) : EReal) = _
  rw [show Real.rpow 2 ((w.toInt : Int) : ℝ) = (2 : ℝ) ^ w.toInt from Real.rpow_intCast 2 _]

end Cert.Decode
-- ==== Proof.Group.lean ====
/- What the kernel stores for one group of 128 weight rows, entry by entry. -/
module

public import proofs.«01_k».proof.Proof.Gen.KernelIdeal.Skeleton
public import proofs.«01_k».proof.Proof.Decode
public import Idealize.ShloMosaic.Lib.ValueIdx
public import Idealize.ShloMosaic.Lib.BitcastPair

@[expose] public section

noncomputable section

namespace Cert.Group

open Idealize.ShloMosaic Cert.KernelIdeal Cert.KernelIdeal.Gen Cert.Decode

/-- The 128 stored rows of one group, from the bias word, the residual, 64 rows of codes and one row of scales. -/
def group (v0 : Elt Ideal .i32) (v1 : Elt Ideal .f32) (codes : Vec Ideal S64x1024 .i8) (sc : Vec Ideal S1x1024 .f32) :
    FVec Ideal S128x1024 .bf16 :=
  k0_pay16 (k0_pay4 codes) (k0_pay9 codes) (k0_pay10 codes) (k0_pay12 v0 v1 codes) (k0_pay13 v0 v1 codes)
    (k0_pay14 codes) (k0_pay15 codes) sc

/-! The eight groups are one function of their inputs. -/

/-- Group 0's stored rows. -/
theorem group0_eq (v0 : Elt Ideal .i32) (v1 : Elt Ideal .f32) (codes : Vec Ideal S64x1024 .i8) (sc : Vec Ideal S1x1024 .f32) :
    k0_pay16 (k0_pay4 codes) (k0_pay9 codes) (k0_pay10 codes) (k0_pay12 v0 v1 codes) (k0_pay13 v0 v1 codes) (k0_pay14
      codes) (k0_pay15 codes) sc
      = group v0 v1 codes sc := rfl

/-- Group 1's stored rows. -/
theorem group1_eq (v0 : Elt Ideal .i32) (v1 : Elt Ideal .f32) (codes : Vec Ideal S64x1024 .i8) (sc : Vec Ideal S1x1024 .f32) :
    k0_pay26 (k0_pay3 v1) (k0_pay17 codes) (k0_pay18 codes) (k0_pay19 codes) (k0_pay22 codes) (k0_pay23 codes)
      (k0_pay24 v0 codes) (k0_pay25 codes) (12#32) sc
      = group v0 v1 codes sc := rfl

/-- Group 2's stored rows. -/
theorem group2_eq (v0 : Elt Ideal .i32) (v1 : Elt Ideal .f32) (codes : Vec Ideal S64x1024 .i8) (sc : Vec Ideal S1x1024 .f32) :
    k0_pay32 v0 (k0_pay3 v1) (k0_pay27 codes) (k0_pay28 codes) (k0_pay29 codes) (k0_pay30 codes) (k0_pay31 codes) sc
      = group v0 v1 codes sc := rfl

/-- Group 3's stored rows. -/
theorem group3_eq (v0 : Elt Ideal .i32) (v1 : Elt Ideal .f32) (codes : Vec Ideal S64x1024 .i8) (sc : Vec Ideal S1x1024 .f32) :
    k0_pay43 (k0_pay33 codes) (k0_pay41 v0 (k0_pay3 v1) codes) (k0_pay42 v0 (k0_pay3 v1) codes) (136#32) sc
      = group v0 v1 codes sc := rfl

/-- Group 4's stored rows. -/
theorem group4_eq (v0 : Elt Ideal .i32) (v1 : Elt Ideal .f32) (codes : Vec Ideal S64x1024 .i8) (sc : Vec Ideal S1x1024 .f32) :
    k0_pay52 (k0_pay44 codes) (k0_pay45 codes) (k0_pay46 codes) (k0_pay49 codes) (k0_pay50 codes) (k0_pay51 v0 (k0_pay3
      v1) codes) sc
      = group v0 v1 codes sc := rfl

/-- Group 5's stored rows. -/
theorem group5_eq (v0 : Elt Ideal .i32) (v1 : Elt Ideal .f32) (codes : Vec Ideal S64x1024 .i8) (sc : Vec Ideal S1x1024 .f32) :
    k0_pay60 v0 (k0_pay3 v1) (k0_pay53 codes) (k0_pay54 codes) (k0_pay55 codes) (k0_pay56 codes) (k0_pay58 codes)
      (k0_pay59 codes) sc
      = group v0 v1 codes sc := rfl

/-- Group 6's stored rows. -/
theorem group6_eq (v0 : Elt Ideal .i32) (v1 : Elt Ideal .f32) (codes : Vec Ideal S64x1024 .i8) (sc : Vec Ideal S1x1024 .f32) :
    k0_pay72 (k0_pay70 v0 (k0_pay3 v1) (k0_pay61 codes) 15#32) (k0_pay71 v0 (k0_pay3 v1) (k0_pay61 codes) 15#32) sc
      = group v0 v1 codes sc := rfl

/-- Group 7's stored rows. -/
theorem group7_eq (v0 : Elt Ideal .i32) (v1 : Elt Ideal .f32) (codes : Vec Ideal S64x1024 .i8) (sc : Vec Ideal S1x1024 .f32) :
    k0_pay84 (k0_pay73 codes) (k0_pay75 codes) (k0_pay78 codes) (k0_pay79 codes) (k0_pay81 v0 (k0_pay3 v1) codes)
      (k0_pay82 v0 (k0_pay3 v1) codes) (k0_pay83 codes) (128#32) sc
      = group v0 v1 codes sc := rfl

/-- A 32-bit word array read as 16-bit rows: rows `2i` and `2i + 1` are the low and high halves of word row `i`. -/
theorem halves_apply (x : IVec S64x1024 32) (h : S64x1024.Bitcasts 32 S128x1024 16) (r : Fin 128) (q : Fin 1024) :
    bitcast S128x1024 16 x h (ix2 r q) = (x (ix2 ⟨r.val / 2, by omega⟩ q)).extractLsb' (16 * (r.val % 2)) 16 := by
  rw [bitcast_32_16]
  have hr : S128x1024.row (ix2 r q) = r.val := rfl
  simp only [hr]
  congr 2
  funext a
  match a with
  | ⟨0, _⟩ => rfl
  | ⟨1, _⟩ => rfl

/-- The kernel's test that the low code is the victim. -/
theorem low_victim : ∀ n < 256, IntOp.cmpi .eq (IntOp.andi (BitVec.setWidth 32 (BitVec.ofNat 8 n)) 15#32) 8#32
    = BitVec.ofBool (decide (code (BitVec.ofNat 8 n) 0 = 8)) := by decide +kernel

/-- The kernel's test that the high code is the victim. -/
theorem high_victim : ∀ n < 256, IntOp.cmpi .eq (IntOp.andi (BitVec.setWidth 32 (BitVec.ofNat 8 n)) 240#32) 128#32
    = BitVec.ofBool (decide (code (BitVec.ofNat 8 n) 1 = 8)) := by decide +kernel

/-- The kernel's test that both codes are the victim. -/
theorem both_victims : ∀ n < 256, IntOp.cmpi .eq (BitVec.setWidth 32 (BitVec.ofNat 8 n)) 136#32
    = BitVec.ofBool (decide (code (BitVec.ofNat 8 n) 0 = 8 ∧ code (BitVec.ofNat 8 n) 1 = 8)) := by decide +kernel

/-- The three tests, selecting between the three values of each half of a byte. -/
theorem selects (b : BitVec 8) (o0 n0 o1 n1 : EReal) :
    Scalar.select (IntOp.cmpi .eq (BitVec.setWidth 32 b) 136#32) 0
      (Scalar.select (IntOp.ori (IntOp.cmpi .eq (IntOp.andi (BitVec.setWidth 32 b) 15#32) 8#32)
          (IntOp.cmpi .eq (IntOp.andi (BitVec.setWidth 32 b) 240#32) 128#32))
        (Scalar.select (IntOp.cmpi .eq (IntOp.andi (BitVec.setWidth 32 b) 240#32) 128#32) o0 0) n0)
      = (if code b 0 = 8 then 0 else if code b 1 = 8 then o0 else n0)
    ∧ Scalar.select (IntOp.cmpi .eq (BitVec.setWidth 32 b) 136#32) 0
      (Scalar.select (IntOp.ori (IntOp.cmpi .eq (IntOp.andi (BitVec.setWidth 32 b) 15#32) 8#32)
          (IntOp.cmpi .eq (IntOp.andi (BitVec.setWidth 32 b) 240#32) 128#32))
        (Scalar.select (IntOp.cmpi .eq (IntOp.andi (BitVec.setWidth 32 b) 240#32) 128#32) 0 o1) n1)
      = (if code b 1 = 8 then 0 else if code b 0 = 8 then o1 else n1) := by
  have hl := low_victim b.toNat b.isLt
  have hh := high_victim b.toNat b.isLt
  have hb := both_victims b.toNat b.isLt
  rw [BitVec.ofNat_toNat, BitVec.setWidth_eq] at hl hh hb
  rw [hl, hh, hb]
  by_cases c0 : code b 0 = 8 <;> by_cases c1 : code b 1 = 8 <;>
    simp [c0, c1, Scalar.select, IntOp.ori]

/-- Entry `(r, q)` of a group's rows: the weight that half `r % 2` of byte `(r / 2, q)` codes for, times its column's
    scale. The bias word holds the exponent field `E` in both halves, and the residual is the power `2 ^ z`. -/
theorem group_apply (E : Nat) (h0 : 0 < E) (hE : E < 252) (z : Int) (codes : Vec Ideal S64x1024 .i8)
    (sc : Vec Ideal S1x1024 .f32) (r : Fin 128) (q : Fin 1024) :
    group ((BitVec.ofNat 32 E <<< 7) * 65537#32) (((2 : ℝ) ^ z : ℝ) : EReal) codes sc (ix2 r q)
      = ((weight (codes (ix2 ⟨r.val / 2, by omega⟩ q)) (r.val % 2) ((E : Int) - 127 + z) : ℝ) : EReal) * sc (ix2 0 q) := by
  unfold group
  pointwise [k0_pay16, k0_pay4, k0_pay9, k0_pay10, k0_pay12, k0_pay13, k0_pay14, k0_pay15, k0_pay5, k0_pay6, k0_pay7,
    k0_pay8, k0_pay11, k0_pay3]
  have hN : ∀ j, xori (ori (andi (extui 32 codes natLt_8_32) (broadcast S64x1024 15#32))
      (shli (andi (extui 32 codes natLt_8_32) (broadcast S64x1024 240#32)) (broadcast S64x1024 12#32)))
      (broadcast S64x1024 1124614920#32) j = codeWord (codes j) ^^^ 1124614920#32 := fun _ => rfl
  have hO : ∀ v j, ori (addi (shli (andi (ori (andi (extui 32 codes natLt_8_32) (broadcast S64x1024 15#32))
      (shli (andi (extui 32 codes natLt_8_32) (broadcast S64x1024 240#32)) (broadcast S64x1024 12#32)))
      (broadcast S64x1024 458759#32)) (broadcast S64x1024 6#32)) (broadcast S64x1024 v))
      (shli (andi (ori (andi (extui 32 codes natLt_8_32) (broadcast S64x1024 15#32))
      (shli (andi (extui 32 codes natLt_8_32) (broadcast S64x1024 240#32)) (broadcast S64x1024 12#32)))
      (broadcast S64x1024 524296#32)) (broadcast S64x1024 12#32)) j = outWord (codes j) v := fun _ _ => rfl
  have m0 : 2 * (r.val / 2) % 2 = 0 := by omega
  have m1 : (2 * (r.val / 2) + 1) % 2 = 1 := by omega
  have d0 : 2 * (r.val / 2) / 2 = r.val / 2 := by omega
  have d1 : (2 * (r.val / 2) + 1) / 2 = r.val / 2 := by omega
  simp only [halves_apply, hN, hO, m0, m1, d0, d1]
  generalize codes (ix2 ⟨r.val / 2, by omega⟩ q) = b
  rw [(selects b _ _ 0 0).1, (selects b 0 0 _ _).2, out_half b 0 (by decide) E h0 hE z, out_half b 1 (by decide) E h0 hE z,
    normal_half b 0 (by decide), normal_half b 1 (by decide)]
  congr 1
  unfold weight half code
  simp only [if_true, if_neg (show ¬ (1 = 0) by decide)]
  split <;> split <;> first | rfl | (split <;> rfl)

end Cert.Group
-- ==== Proof.Step.lean ====
/- One grid point of the kernel: what its stores leave in the running sum, as one function of the array index. -/
module

public import proofs.«01_k».proof.Proof.Gen.KernelIdeal.Value
public import proofs.«01_k».proof.Proof.Group
public import Idealize.ShloMosaic.Lib.Pipeline.Value
public import Idealize.ShloMosaic.Lib.Pipeline.ReadBack
public import Idealize.ShloMosaic.Lib.MatmulPlain
public import Idealize.ShloMosaic.Lib.Tactic

@[expose] public section

set_option maxRecDepth 16384

noncomputable section

namespace Cert.Step

open Idealize.ShloMosaic Idealize.ShloMosaic.TcCoe Idealize.SL.Sem
open Cert.KernelIdeal Cert.KernelIdeal.Gen Cert.Decode Cert.Group

theorem hz : (![0, 0] : Fin 2 → Nat) = fun _ => 0 := funext fun a => by fin_cases a <;> rfl

/-! ## The decoded block of weights -/

/-- The block of weights a point decodes from its codes and scales, at exponent bias `bias`. -/
def wBlock (bias : Int) (x3 : Vec Ideal S512x1024 .i8) (x4 : Vec Ideal S8x1024 .f32) : Vec Ideal S1024x1024 .bf16 := fun y =>
  ((weight (x3 (ix2 ⟨(y 0).val / 2, by have := (y 0).isLt; change _ < 1024 at this; omega⟩ (y 1))) ((y 0).val % 2) bias : ℝ) : EReal)
    * x4 (ix2 ⟨(y 0).val / 128, by have := (y 0).isLt; change _ < 1024 at this; omega⟩ (y 1))

/-- What is assumed of the bias word and the residual at a point: field `E`, residual power `z`, adding up to the bias. -/
structure Biased (bias : Int) (w : BitVec 32) (res : EReal) : Prop where
  ex : ∃ (E : Nat) (z : Int), 0 < E ∧ E < 252 ∧ (E : Int) - 127 + z = bias ∧ w = (BitVec.ofNat 32 E <<< 7) * 65537#32
    ∧ res = (((2 : ℝ) ^ z : ℝ) : EReal)

/-- Group `g`'s rows are rows `128 g …` of the decoded block. -/
theorem group_piece (bias : Int) (w : BitVec 32) (res : EReal) (hb : Biased bias w res) (x3 : Vec Ideal S512x1024 .i8)
    (x4 : Vec Ideal S8x1024 .f32) (g : Nat) (hg : g < 8)
    (h1 : ∀ a, (![128 * g, 0] : Fin 2 → Nat) a + S128x1024.size a ≤ S1024x1024.size a)
    (h2 : ∀ a, (![64 * g, 0] : Fin 2 → Nat) a + S64x1024.size a ≤ S512x1024.size a)
    (h3 : ∀ a, (![g, 0] : Fin 2 → Nat) a + S1x1024.size a ≤ S8x1024.size a) (x : S128x1024.Idx) :
    group w res (View.ld x3 (Rect.unit (s := S512x1024) ![64 * g, 0] S64x1024.size h2))
        (View.ld x4 (Rect.unit (s := S8x1024) ![g, 0] S1x1024.size h3)) x
      = wBlock bias x3 x4 ((Rect.unit (s := S1024x1024) ![128 * g, 0] S128x1024.size h1).emb x) := by
  obtain ⟨E, z, h0, hE, he, rfl, rfl⟩ := hb.ex
  have hx : x = ix2 (x 0) (x 1) := by
    funext a
    match a with
    | ⟨0, _⟩ => rfl
    | ⟨1, _⟩ => rfl
  have hx0 : (x 0).val < 128 := (x 0).isLt
  refine (congrArg _ hx).trans ((group_apply E h0 hE z _ _ (x 0) (x 1)).trans ?_)
  rw [he]
  unfold wBlock
  have e0 : (((Rect.unit (s := S1024x1024) ![128 * g, 0] S128x1024.size h1).emb x) 0).val = 128 * g + 1 * (x 0).val := rfl
  have e1 : (((Rect.unit (s := S1024x1024) ![128 * g, 0] S128x1024.size h1).emb x) 1).val = 0 + 1 * (x 1).val := rfl
  have hp : (((Rect.unit (s := S1024x1024) ![128 * g, 0] S128x1024.size h1).emb x) 0).val % 2 = (x 0).val % 2 := by omega
  rw [hp]
  refine congrArg₂ (· * ·) (congrArg (fun b => ((weight b ((x 0).val % 2) bias : ℝ) : EReal)) (congrArg x3 ?_)) (congrArg x4 ?_)
  · funext a
    apply Fin.ext
    match a with
    | ⟨0, _⟩ => show 64 * g + 1 * ((x 0).val / 2) = _ / 2; rw [e0]; omega
    | ⟨1, _⟩ => exact e1.symm
  · funext a
    apply Fin.ext
    match a with
    | ⟨0, _⟩ => show g + 1 * 0 = _ / 128; rw [e0]; omega
    | ⟨1, _⟩ => exact e1.symm

/-- The eight stores into the weight scratch. -/
def wPieces (w : BitVec 32) (res : EReal) (x3 : Vec Ideal S512x1024 .i8) (x4 : Vec Ideal S8x1024 .f32) :
    List (View.Piece (Elt Ideal) S1024x1024 .bf16) :=
  [⟨Rect.unit ![896, 0] S128x1024.size inb_S1024x1024_S128x1024_896_0,
      group w res (View.ld x3 (Rect.unit ![448, 0] S64x1024.size inb_S512x1024_S64x1024_448_0))
        (View.ld x4 (Rect.unit ![7, 0] S1x1024.size inb_S8x1024_S1x1024_7_0))⟩,
    ⟨Rect.unit ![768, 0] S128x1024.size inb_S1024x1024_S128x1024_768_0,
      group w res (View.ld x3 (Rect.unit ![384, 0] S64x1024.size inb_S512x1024_S64x1024_384_0))
        (View.ld x4 (Rect.unit ![6, 0] S1x1024.size inb_S8x1024_S1x1024_6_0))⟩,
    ⟨Rect.unit ![640, 0] S128x1024.size inb_S1024x1024_S128x1024_640_0,
      group w res (View.ld x3 (Rect.unit ![320, 0] S64x1024.size inb_S512x1024_S64x1024_320_0))
        (View.ld x4 (Rect.unit ![5, 0] S1x1024.size inb_S8x1024_S1x1024_5_0))⟩,
    ⟨Rect.unit ![512, 0] S128x1024.size inb_S1024x1024_S128x1024_512_0,
      group w res (View.ld x3 (Rect.unit ![256, 0] S64x1024.size inb_S512x1024_S64x1024_256_0))
        (View.ld x4 (Rect.unit ![4, 0] S1x1024.size inb_S8x1024_S1x1024_4_0))⟩,
    ⟨Rect.unit ![384, 0] S128x1024.size inb_S1024x1024_S128x1024_384_0,
      group w res (View.ld x3 (Rect.unit ![192, 0] S64x1024.size inb_S512x1024_S64x1024_192_0))
        (View.ld x4 (Rect.unit ![3, 0] S1x1024.size inb_S8x1024_S1x1024_3_0))⟩,
    ⟨Rect.unit ![256, 0] S128x1024.size inb_S1024x1024_S128x1024_256_0,
      group w res (View.ld x3 (Rect.unit ![128, 0] S64x1024.size inb_S512x1024_S64x1024_128_0))
        (View.ld x4 (Rect.unit ![2, 0] S1x1024.size inb_S8x1024_S1x1024_2_0))⟩,
    ⟨Rect.unit ![128, 0] S128x1024.size inb_S1024x1024_S128x1024_128_0,
      group w res (View.ld x3 (Rect.unit ![64, 0] S64x1024.size inb_S512x1024_S64x1024_64_0))
        (View.ld x4 (Rect.unit ![1, 0] S1x1024.size inb_S8x1024_S1x1024_1_0))⟩,
    ⟨Rect.unit ![0, 0] S128x1024.size inb_S1024x1024_S128x1024_0_0,
      group w res (View.ld x3 (Rect.unit ![0, 0] S64x1024.size inb_S512x1024_S64x1024_0_0))
        (View.ld x4 (Rect.unit ![0, 0] S1x1024.size inb_S8x1024_S1x1024_0_0))⟩]

/-- The weight scratch read back whole is the decoded block. -/
theorem w_read (bias : Int) (w : BitVec 32) (res : EReal) (hb : Biased bias w res) (x3 : Vec Ideal S512x1024 .i8)
    (x4 : Vec Ideal S8x1024 .f32) (v : View sig .tc .vmem S1024x1024 .bf16) :
    v.readCov (wPieces w res x3 x4)
        (Rect.unit (s := S1024x1024) ![0, 0] S1024x1024.size inb_S1024x1024_S1024x1024_0_0).toLoadRect
      = wBlock bias x3 x4 := by
  have hc : ∀ y, ∃ p ∈ wPieces w res x3 x4, y ∈ p.1.set :=
    View.cover_of_tiledL (wPieces w res x3 x4) S128x1024.size (by sl_kernel_rfl)
  rw [View.readCov_eq_canon_ld _ _ _ hc, View.ld_unit_zero hz]
  funext y
  refine View.canon_apply_of_pieces _ _ (View.PiecesOf.mem ?_) y (hc y)
  exact ⟨fun x => group_piece bias w res hb x3 x4 7 (by decide) inb_S1024x1024_S128x1024_896_0
        inb_S512x1024_S64x1024_448_0 inb_S8x1024_S1x1024_7_0 x,
    fun x => group_piece bias w res hb x3 x4 6 (by decide) inb_S1024x1024_S128x1024_768_0
        inb_S512x1024_S64x1024_384_0 inb_S8x1024_S1x1024_6_0 x,
    fun x => group_piece bias w res hb x3 x4 5 (by decide) inb_S1024x1024_S128x1024_640_0
        inb_S512x1024_S64x1024_320_0 inb_S8x1024_S1x1024_5_0 x,
    fun x => group_piece bias w res hb x3 x4 4 (by decide) inb_S1024x1024_S128x1024_512_0
        inb_S512x1024_S64x1024_256_0 inb_S8x1024_S1x1024_4_0 x,
    fun x => group_piece bias w res hb x3 x4 3 (by decide) inb_S1024x1024_S128x1024_384_0
        inb_S512x1024_S64x1024_192_0 inb_S8x1024_S1x1024_3_0 x,
    fun x => group_piece bias w res hb x3 x4 2 (by decide) inb_S1024x1024_S128x1024_256_0
        inb_S512x1024_S64x1024_128_0 inb_S8x1024_S1x1024_2_0 x,
    fun x => group_piece bias w res hb x3 x4 1 (by decide) inb_S1024x1024_S128x1024_128_0
        inb_S512x1024_S64x1024_64_0 inb_S8x1024_S1x1024_1_0 x,
    fun x => group_piece bias w res hb x3 x4 0 (by decide) inb_S1024x1024_S128x1024_0_0
        inb_S512x1024_S64x1024_0_0 inb_S8x1024_S1x1024_0_0 x, trivial⟩

/-! ## The running sum -/

/-- The running sum after a point: what it was, plus the product of the point's block of `x` and of weights. -/
def accStep (x2 : Vec Ideal S4096x1024 .bf16) (W : Vec Ideal S1024x1024 .bf16) (acc : Vec Ideal S4096x1024 .f32) :
    Vec Ideal S4096x1024 .f32 := fun y =>
  acc y + ∑ k : Fin 1024, x2 (ix2 (y 0) k) * W (ix2 k (y 1))

/-- One chunk of 512 rows of the running sum. -/
def chunk (a : Vec Ideal S512x1024 .f32) (x : Vec Ideal S512x1024 .bf16) (W : Vec Ideal S1024x1024 .bf16) :
    FVec Ideal S512x1024 .f32 := k0_pay86 a x W

/-! The eight chunks are one function of their inputs. -/

theorem chunk0_eq (a : Vec Ideal S512x1024 .f32) (x : Vec Ideal S512x1024 .bf16) (W : Vec Ideal S1024x1024 .bf16) :
    k0_pay86 a x W = chunk a x W := rfl

theorem chunk1_eq (a : Vec Ideal S512x1024 .f32) (x : Vec Ideal S512x1024 .bf16) (W : Vec Ideal S1024x1024 .bf16) :
    k0_pay87 a x W = chunk a x W := rfl

theorem chunk2_eq (a : Vec Ideal S512x1024 .f32) (x : Vec Ideal S512x1024 .bf16) (W : Vec Ideal S1024x1024 .bf16) :
    k0_pay88 a x W = chunk a x W := rfl

theorem chunk3_eq (a : Vec Ideal S512x1024 .f32) (x : Vec Ideal S512x1024 .bf16) (W : Vec Ideal S1024x1024 .bf16) :
    k0_pay89 a x W = chunk a x W := rfl

theorem chunk4_eq (a : Vec Ideal S512x1024 .f32) (x : Vec Ideal S512x1024 .bf16) (W : Vec Ideal S1024x1024 .bf16) :
    k0_pay91 a (k0_pay90 x) W = chunk a x W := rfl

theorem chunk5_eq (a : Vec Ideal S512x1024 .f32) (x : Vec Ideal S512x1024 .bf16) (W : Vec Ideal S1024x1024 .bf16) :
    k0_pay92 a x W = chunk a x W := rfl

theorem chunk6_eq (a : Vec Ideal S512x1024 .f32) (x : Vec Ideal S512x1024 .bf16) (W : Vec Ideal S1024x1024 .bf16) :
    k0_pay93 a x W = chunk a x W := rfl

theorem chunk7_eq (a : Vec Ideal S512x1024 .f32) (x : Vec Ideal S512x1024 .bf16) (W : Vec Ideal S1024x1024 .bf16) :
    k0_pay1 a (k0_pay94 x) W = chunk a x W := rfl

/-- A chunk, entry by entry. -/
theorem chunk_apply (a : Vec Ideal S512x1024 .f32) (x : Vec Ideal S512x1024 .bf16) (W : Vec Ideal S1024x1024 .bf16)
    (r : Fin 512) (q : Fin 1024) : chunk a x W (ix2 r q) = a (ix2 r q) + ∑ k : Fin 1024, x (ix2 r k) * W (ix2 k q) := by
  unfold chunk k0_pay86
  simp only [shapeCast_self]
  have h := Ideal.matmul_plain_apply (φ₁ := .bf16) (φ₂ := .bf16) (M := 512) (K := 1024) (N := 1024) none x W
    (constant (F := Ideal) S512x1024 .f32 0x00000000#32) r q
  have h0 : constant (F := Ideal) S512x1024 .f32 0x00000000#32 (ValueIdx.ix2 r q) = 0 := Ideal.ofBits_zero_f32
  rw [h0, zero_add] at h
  exact congrArg (a (ix2 r q) + ·) h

/-- A chunk's rows are rows of the running sum after the point. -/
theorem chunk_piece (acc : Vec Ideal S4096x1024 .f32) (x2 : Vec Ideal S4096x1024 .bf16) (W : Vec Ideal S1024x1024 .bf16) (o : Nat)
    (h : ∀ a, (![o, 0] : Fin 2 → Nat) a + S512x1024.size a ≤ S4096x1024.size a) (x : S512x1024.Idx) :
    chunk (View.ld acc (Rect.unit (s := S4096x1024) ![o, 0] S512x1024.size h))
        (View.ld x2 (Rect.unit (s := S4096x1024) ![o, 0] S512x1024.size h)) W x
      = accStep x2 W acc ((Rect.unit (s := S4096x1024) ![o, 0] S512x1024.size h).emb x) := by
  have hx : x = ix2 (x 0) (x 1) := by
    funext a
    match a with
    | ⟨0, _⟩ => rfl
    | ⟨1, _⟩ => rfl
  refine (congrArg _ hx).trans ((chunk_apply _ _ W (x 0) (x 1)).trans ?_)
  unfold accStep
  refine congrArg₂ (· + ·) (congrArg acc (congrArg _ hx.symm)) (Finset.sum_congr rfl fun k _ => ?_)
  refine congrArg₂ (· * ·) (congrArg x2 ?_) (congrArg W ?_)
  · funext a
    apply Fin.ext
    match a with
    | ⟨0, _⟩ => rfl
    | ⟨1, _⟩ => show 0 + 1 * k.val = k.val; omega
  · funext a
    apply Fin.ext
    match a with
    | ⟨0, _⟩ => rfl
    | ⟨1, _⟩ => show (x 1).val = 0 + 1 * (x 1).val; omega

/-! ## The three cases -/

/-- The eight stores into the running sum, each chunk read from `acc`. -/
def accPieces (acc : Vec Ideal S4096x1024 .f32) (x2 : Vec Ideal S4096x1024 .bf16) (W : Vec Ideal S1024x1024 .bf16) :
    List (View.Piece (Elt Ideal) S4096x1024 .f32) :=
  [⟨Rect.unit (s := S4096x1024) ![3584, 0] S512x1024.size inb_S4096x1024_S512x1024_3584_0,
      chunk (View.ld acc (Rect.unit (s := S4096x1024) ![3584, 0] S512x1024.size inb_S4096x1024_S512x1024_3584_0))
        (View.ld x2 (Rect.unit (s := S4096x1024) ![3584, 0] S512x1024.size inb_S4096x1024_S512x1024_3584_0)) W⟩,
    ⟨Rect.unit (s := S4096x1024) ![3072, 0] S512x1024.size inb_S4096x1024_S512x1024_3072_0,
      chunk (View.ld acc (Rect.unit (s := S4096x1024) ![3072, 0] S512x1024.size inb_S4096x1024_S512x1024_3072_0))
        (View.ld x2 (Rect.unit (s := S4096x1024) ![3072, 0] S512x1024.size inb_S4096x1024_S512x1024_3072_0)) W⟩,
    ⟨Rect.unit (s := S4096x1024) ![2560, 0] S512x1024.size inb_S4096x1024_S512x1024_2560_0,
      chunk (View.ld acc (Rect.unit (s := S4096x1024) ![2560, 0] S512x1024.size inb_S4096x1024_S512x1024_2560_0))
        (View.ld x2 (Rect.unit (s := S4096x1024) ![2560, 0] S512x1024.size inb_S4096x1024_S512x1024_2560_0)) W⟩,
    ⟨Rect.unit (s := S4096x1024) ![2048, 0] S512x1024.size inb_S4096x1024_S512x1024_2048_0,
      chunk (View.ld acc (Rect.unit (s := S4096x1024) ![2048, 0] S512x1024.size inb_S4096x1024_S512x1024_2048_0))
        (View.ld x2 (Rect.unit (s := S4096x1024) ![2048, 0] S512x1024.size inb_S4096x1024_S512x1024_2048_0)) W⟩,
    ⟨Rect.unit (s := S4096x1024) ![1536, 0] S512x1024.size inb_S4096x1024_S512x1024_1536_0,
      chunk (View.ld acc (Rect.unit (s := S4096x1024) ![1536, 0] S512x1024.size inb_S4096x1024_S512x1024_1536_0))
        (View.ld x2 (Rect.unit (s := S4096x1024) ![1536, 0] S512x1024.size inb_S4096x1024_S512x1024_1536_0)) W⟩,
    ⟨Rect.unit (s := S4096x1024) ![1024, 0] S512x1024.size inb_S4096x1024_S512x1024_1024_0,
      chunk (View.ld acc (Rect.unit (s := S4096x1024) ![1024, 0] S512x1024.size inb_S4096x1024_S512x1024_1024_0))
        (View.ld x2 (Rect.unit (s := S4096x1024) ![1024, 0] S512x1024.size inb_S4096x1024_S512x1024_1024_0)) W⟩,
    ⟨Rect.unit (s := S4096x1024) ![512, 0] S512x1024.size inb_S4096x1024_S512x1024_512_0,
      chunk (View.ld acc (Rect.unit (s := S4096x1024) ![512, 0] S512x1024.size inb_S4096x1024_S512x1024_512_0))
        (View.ld x2 (Rect.unit (s := S4096x1024) ![512, 0] S512x1024.size inb_S4096x1024_S512x1024_512_0)) W⟩,
    ⟨Rect.unit (s := S4096x1024) ![0, 0] S512x1024.size inb_S4096x1024_S512x1024_0_0,
      chunk (View.ld acc (Rect.unit (s := S4096x1024) ![0, 0] S512x1024.size inb_S4096x1024_S512x1024_0_0))
        (View.ld x2 (Rect.unit (s := S4096x1024) ![0, 0] S512x1024.size inb_S4096x1024_S512x1024_0_0)) W⟩]

/-- They leave the running sum after the point, over any earlier stores. -/
theorem canon_accPieces (acc : Vec Ideal S4096x1024 .f32) (x2 : Vec Ideal S4096x1024 .bf16) (W : Vec Ideal S1024x1024 .bf16)
    (L' : List (View.Piece (Elt Ideal) S4096x1024 .f32)) :
    View.canon (accPieces acc x2 W ++ L') = accStep x2 W acc := by
  have hc : ∀ y, ∃ p ∈ accPieces acc x2 W, y ∈ p.1.set :=
    View.cover_of_tiledL (accPieces acc x2 W) S512x1024.size (by sl_kernel_rfl)
  funext y
  refine View.canon_append_of_piecesOf _ L' _ ?_ y (hc y)
  exact ⟨fun x => chunk_piece acc x2 W 3584 inb_S4096x1024_S512x1024_3584_0 x,
    fun x => chunk_piece acc x2 W 3072 inb_S4096x1024_S512x1024_3072_0 x,
    fun x => chunk_piece acc x2 W 2560 inb_S4096x1024_S512x1024_2560_0 x,
    fun x => chunk_piece acc x2 W 2048 inb_S4096x1024_S512x1024_2048_0 x,
    fun x => chunk_piece acc x2 W 1536 inb_S4096x1024_S512x1024_1536_0 x,
    fun x => chunk_piece acc x2 W 1024 inb_S4096x1024_S512x1024_1024_0 x,
    fun x => chunk_piece acc x2 W 512 inb_S4096x1024_S512x1024_512_0 x,
    fun x => chunk_piece acc x2 W 0 inb_S4096x1024_S512x1024_0_0 x, trivial⟩

section Cases
variable (c : Dev nD) (i : grid0.Coords) (arg2 : Memref sig .tc .smem S1 .i32) (harg2 : arg2.IsWhole)
  (arg3 : Memref sig .tc .smem S1 .f32) (harg3 : arg3.IsWhole) (arg4 : Memref sig .tc .vmem S4096x1024 .bf16) (harg4 : arg4.IsWhole)
  (arg5 : Memref sig .tc .vmem S512x1024 .i8) (harg5 : arg5.IsWhole) (arg6 : Memref sig .tc .vmem S8x1024 .f32) (harg6 : arg6.IsWhole)
  (arg7 : Memref sig .tc .vmem S4096x1024 .bf16) (harg7 : arg7.IsWhole) (arg8 : Memref sig .tc .vmem S1024x1024 .bf16)
  (harg8 : arg8.IsWhole) (arg9 : Memref sig .tc .vmem S4096x1024 .f32) (harg9 : arg9.IsWhole)
  (x0 : Vec Ideal S1 .i32) (x1 : Vec Ideal S1 .f32) (x2 : Vec Ideal S4096x1024 .bf16) (x3 : Vec Ideal S512x1024 .i8)
  (x4 : Vec Ideal S8x1024 .f32)

/-- The one index of a one-element array. -/
abbrev i1 : S1.Idx := ix1 (0 : Fin 1)

/-- Any load from a one-element array gives its one entry: the bias word … -/
theorem first_x0 (r : Rect S1) (j : r.shape.Idx) : View.ld x0 r j = x0 i1 := by
  refine congrArg x0 (funext fun a => Fin.ext ?_)
  match a with
  | ⟨0, h⟩ => exact Nat.lt_one_iff.mp (r.emb j ⟨0, h⟩).isLt

/-- … and the residual. -/
theorem first_x1 (r : Rect S1) (j : r.shape.Idx) : View.ld x1 r j = x1 i1 := by
  refine congrArg x1 (funext fun a => Fin.ext ?_)
  match a with
  | ⟨0, h⟩ => exact Nat.lt_one_iff.mp (r.emb j ⟨0, h⟩).isLt

/-- The bias word and the residual, as the point loads them. -/
theorem Biased.loaded {x0 : Vec Ideal S1 .i32} {x1 : Vec Ideal S1 .f32} {bias : Int} (hb : Biased bias (x0 i1) (x1 i1)) :
    Biased bias (View.ld x0 (Rect.unit (s := S1) ![0] S1.size inb_S1_S1_0) (Shape.Idx.first Nat.one_pos))
      (View.ld x1 (Rect.unit (s := S1) ![0] S1.size inb_S1_S1_0) (Shape.Idx.first Nat.one_pos)) := by
  rw [first_x0 x0, first_x1 x1]
  exact hb

/-- A point that neither starts nor ends a block of columns adds its product to the running sum. -/
theorem sum_B (hc0 : ¬cond0_0 i) (hc1 : ¬cond0_1 i) (xs1 : Vec Ideal S4096x1024 .f32) (bias : Int)
    (hb : Biased bias (x0 i1) (x1 i1)) :
    sout0_B_1 c i arg2 harg2 arg3 harg3 arg4 harg4 arg5 harg5 arg6 harg6 arg7 harg7 arg8 harg8 arg9 harg9 hc0 hc1 x0 x1 x2 x3 x4 xs1
      = accStep x2 (wBlock bias x3 x4) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs1)]
  unfold kernelRun0_B
  dsimp only
  sl_unfold_words
  simp only [View.readAt_eq_ld, harg2.read_unread, harg3.read_unread, harg4.read_unread, harg5.read_unread, harg6.read_unread,
    harg9.read_unread]
  simp only [group0_eq, group1_eq, group2_eq, group3_eq, group4_eq, group5_eq, group6_eq, group7_eq,
    chunk0_eq, chunk1_eq, chunk2_eq, chunk3_eq, chunk4_eq, chunk5_eq, chunk6_eq, chunk7_eq]
  refine Eq.trans ?_ (canon_accPieces xs1 x2 (wBlock bias x3 x4) [])
  rw [← w_read bias _ _ hb.loaded x3 x4 arg8.view]
  exact congrArg View.canon rfl

/-- So does the point that ends a block of columns. -/
theorem sum_C (hc0 : ¬cond0_0 i) (hc1 : cond0_1 i) (xs1 : Vec Ideal S4096x1024 .f32) (bias : Int)
    (hb : Biased bias (x0 i1) (x1 i1)) :
    sout0_C_1 c i arg2 harg2 arg3 harg3 arg4 harg4 arg5 harg5 arg6 harg6 arg7 harg7 arg8 harg8 arg9 harg9 hc0 hc1 x0 x1 x2 x3 x4 xs1
      = accStep x2 (wBlock bias x3 x4) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs1)]
  unfold kernelRun0_C
  dsimp only
  sl_unfold_words
  simp only [View.readAt_eq_ld, harg2.read_unread, harg3.read_unread, harg4.read_unread, harg5.read_unread, harg6.read_unread,
    harg9.read_unread]
  simp only [group0_eq, group1_eq, group2_eq, group3_eq, group4_eq, group5_eq, group6_eq, group7_eq,
    chunk0_eq, chunk1_eq, chunk2_eq, chunk3_eq, chunk4_eq, chunk5_eq, chunk6_eq, chunk7_eq]
  refine Eq.trans ?_ (canon_accPieces xs1 x2 (wBlock bias x3 x4) [])
  rw [← w_read bias _ _ hb.loaded x3 x4 arg8.view]
  exact congrArg View.canon rfl

/-- … and its output block is the running sum, rounded (which over the reals is nothing). -/
theorem out_C (hc0 : ¬cond0_0 i) (hc1 : cond0_1 i) (xs1 : Vec Ideal S4096x1024 .f32) (bias : Int)
    (hb : Biased bias (x0 i1) (x1 i1)) (y : S4096x1024.Idx) :
    out0_C_5 c i arg2 harg2 arg3 harg3 arg4 harg4 arg5 harg5 arg6 harg6 arg7 harg7 arg8 harg8 arg9 harg9 hc0 hc1 x0 x1 x2 x3 x4 xs1 y
      = accStep x2 (wBlock bias x3 x4) xs1 y := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs1)]
  unfold kernelRun0_C
  dsimp only
  sl_unfold_words
  simp only [View.readAt_eq_ld, harg2.read_unread, harg3.read_unread, harg4.read_unread, harg5.read_unread, harg6.read_unread,
    harg9.read_unread]
  simp only [group0_eq, group1_eq, group2_eq, group3_eq, group4_eq, group5_eq, group6_eq, group7_eq,
    chunk0_eq, chunk1_eq, chunk2_eq, chunk3_eq, chunk4_eq, chunk5_eq, chunk6_eq, chunk7_eq]
  rw [View.canon_unit_zero hz]
  have hc : ∀ y, ∃ p ∈ accPieces xs1 x2 (wBlock bias x3 x4), y ∈ p.1.set :=
    View.cover_of_tiledL (accPieces xs1 x2 (wBlock bias x3 x4)) S512x1024.size (by sl_kernel_rfl)
  have hr : arg9.view.readCov (accPieces xs1 x2 (wBlock bias x3 x4))
      (Rect.unit (s := S4096x1024) ![0, 0] S4096x1024.size inb_S4096x1024_S4096x1024_0_0).toLoadRect
        = accStep x2 (wBlock bias x3 x4) xs1 := by
    rw [View.readCov_eq_canon_ld _ _ _ hc, View.ld_unit_zero hz]
    exact canon_accPieces xs1 x2 (wBlock bias x3 x4) []
  refine Eq.trans ?_ (congrFun hr y)
  rw [← w_read bias _ _ hb.loaded x3 x4 arg8.view]
  refine congrFun (a := y) (f := k0_pay2 _) ?_
  exact congrArg (fun L => arg9.view.readCov (Val := Elt Ideal) L
    (Rect.unit (s := S4096x1024) ![0, 0] S4096x1024.size inb_S4096x1024_S4096x1024_0_0).toLoadRect) rfl

/-- The block of zeros a block of columns starts from. -/
theorem zeros : k0_pay85 (F := Ideal) = fun _ => (0 : EReal) := by
  funext y
  unfold k0_pay85
  rw [shapeCast_self]
  exact Ideal.ofBits_zero .f32

/-- The point that starts a block of columns adds its product to zero. -/
theorem sum_A (hc0 : cond0_0 i) (hc1 : ¬cond0_1 i) (bias : Int)
    (hb : Biased bias (x0 i1) (x1 i1)) :
    sout0_A_1 c i arg2 harg2 arg3 harg3 arg4 harg4 arg5 harg5 arg6 harg6 arg7 harg7 arg8 harg8 arg9 harg9 hc0 hc1 x0 x1 x2 x3 x4
      = accStep x2 (wBlock bias x3 x4) (fun _ => 0) := by
  unfold sout0_A_1
  rw [View.read_writes_eq_canon _ _ _ (scover0_A_1 c i arg2 harg2 arg3 harg3 arg4 harg4 arg5 harg5 arg6 harg6 arg7 harg7 arg8
    harg8 arg9 harg9 hc0 hc1 x0 x1 x2 x3 x4)]
  unfold kernelRun0_A
  dsimp only
  sl_unfold_words
  simp (disch := decide) only [↓View.readCov_skip, ↓View.readCov_fill]
  simp only [View.readAt_eq_ld, harg2.read_unread, harg3.read_unread, harg4.read_unread, harg5.read_unread, harg6.read_unread,
    harg9.read_unread]
  simp only [group0_eq, group1_eq, group2_eq, group3_eq, group4_eq, group5_eq, group6_eq, group7_eq,
    chunk0_eq, chunk1_eq, chunk2_eq, chunk3_eq, chunk4_eq, chunk5_eq, chunk6_eq, chunk7_eq, zeros]
  refine Eq.trans ?_ (canon_accPieces (fun _ => 0) x2 (wBlock bias x3 x4)
    [⟨Rect.unit (s := S4096x1024) ![0, 0] S4096x1024.size inb_S4096x1024_S4096x1024_0_0, fun _ => (0 : EReal)⟩])
  rw [← w_read bias _ _ hb.loaded x3 x4 arg8.view]
  exact congrArg View.canon rfl

end Cases

end Cert.Step
-- ==== Proof.Blocks.lean ====
/- The blocks a grid point loads, entry by entry, as entries of the arguments. -/
module

public import proofs.«01_k».proof.Proof.Gen.KernelIdeal.Value
public import proofs.«01_k».proof.Proof.Step
public import Idealize.ShloMosaic.Lib.Tactic
public import Idealize.ShloMosaic.Lib.StableHlo.ReadAt

@[expose] public section

set_option maxRecDepth 16384

noncomputable section

namespace Cert.Blocks

open Idealize.ShloMosaic Idealize.ShloMosaic.TcCoe Idealize.SL.Sem
open Cert.KernelIdeal Cert.KernelIdeal.Gen

variable (m : (ℓ : Loc nD τ sig) → Buf (Elt Ideal) ℓ) (c : Dev nD)

/-- Which blocks point `t` loads: the activations' column block is `t % 16`; the codes' and the scales' row block is `t % 16`
    and their column block `t / 16`. -/
theorem index_facts : ∀ t : Fin cfg0.N, win0_0.index t (0 : Fin 1) = 0 ∧ win0_1.index t (0 : Fin 1) = 0
    ∧ win0_2.index t (0 : Fin 2) = 0 ∧ win0_2.index t (1 : Fin 2) = t.val % 16
    ∧ win0_3.index t (0 : Fin 2) = t.val % 16 ∧ win0_3.index t (1 : Fin 2) = t.val / 16
    ∧ win0_4.index t (0 : Fin 2) = t.val % 16 ∧ win0_4.index t (1 : Fin 2) = t.val / 16 :=
  (by decide +kernel : ∀ t : Fin grid0.N, _)

/-- The activations, as a matrix: row `r` is token `r % 2048` of sequence `r / 2048`. -/
def X (r : Fin 4096) (k : Fin 16384) : EReal :=
  (m ((c : Thread nD τ).loc main_arg0) : Vec Ideal S2x2048x16384 .bf16)
    (ix3 ⟨r.val / 2048, by omega⟩ ⟨r.val % 2048, by omega⟩ k)

/-- The weight codes. -/
def C (p : Fin 8192) (n : Fin 5120) : BitVec 8 := (m ((c : Thread nD τ).loc main_arg1) : Vec Ideal S8192x5120 .i8) (ix2 p n)

/-- The scales. -/
def S (g : Fin 128) (n : Fin 5120) : EReal := (m ((c : Thread nD τ).loc main_arg2) : Vec Ideal S128x5120 .f32) (ix2 g n)

/-- The exponent bias. -/
def B : BitVec 32 := (m ((c : Thread nD τ).loc main_arg3) : Vec Ideal S1 .i32) (ix1 (0 : Fin 1))

theorem lt80 (t : Fin cfg0.N) : t.val < 80 := lt_of_lt_of_eq t.isLt N_0

/-- The host's reshape of the activations to a matrix. -/
theorem V_x (r : Fin 4096) (k : Fin 16384) : (V m c main_v11 : Vec Ideal S4096x16384 .bf16) (ix2 r k) = X m c r k := by
  unfold V X
  after_reads_at

/-- Entry `(r, q)` of the activations' block at point `t`. -/
theorem blk_x (t : Fin cfg0.N) (r : Fin 4096) (q : Fin 1024) :
    (iblk m c 2 t : Vec Ideal S4096x1024 .bf16) (ix2 r q)
      = X m c r ⟨1024 * (t.val % 16) + q.val, by omega⟩ := by
  obtain ⟨-, -, h0, h1, -⟩ := index_facts t
  unfold iblk
  rw [View.read_apply, ← V_x]
  show V m c main_v11 _ = V m c main_v11 _
  congr 1
  funext a
  apply Fin.ext
  match a with
  | ⟨0, _⟩ => show win0_2.index t 0 * 4096 + 1 * r.val = r.val; rw [h0]; omega
  | ⟨1, _⟩ => show win0_2.index t 1 * 1024 + 1 * q.val = 1024 * (t.val % 16) + q.val; rw [h1]; omega

/-- Entry `(p, q)` of the codes' block at point `t`. -/
theorem blk_codes (t : Fin cfg0.N) (p : Fin 512) (q : Fin 1024) :
    (iblk m c 3 t : Vec Ideal S512x1024 .i8) (ix2 p q)
      = C m c ⟨512 * (t.val % 16) + p.val, by omega⟩ ⟨1024 * (t.val / 16) + q.val, by have := lt80 t; omega⟩ := by
  obtain ⟨-, -, -, -, h0, h1, -⟩ := index_facts t
  unfold iblk C
  rw [View.read_apply]
  show V m c main_arg1 _ = _
  rw [V_main_arg1]
  congr 1
  funext a
  apply Fin.ext
  match a with
  | ⟨0, _⟩ => show win0_3.index t 0 * 512 + 1 * p.val = 512 * (t.val % 16) + p.val; rw [h0]; omega
  | ⟨1, _⟩ => show win0_3.index t 1 * 1024 + 1 * q.val = 1024 * (t.val / 16) + q.val; rw [h1]; omega

/-- Entry `(g, q)` of the scales' block at point `t`. -/
theorem blk_scale (t : Fin cfg0.N) (g : Fin 8) (q : Fin 1024) :
    (iblk m c 4 t : Vec Ideal S8x1024 .f32) (ix2 g q)
      = S m c ⟨8 * (t.val % 16) + g.val, by omega⟩ ⟨1024 * (t.val / 16) + q.val, by have := lt80 t; omega⟩ := by
  obtain ⟨-, -, -, -, -, -, h0, h1⟩ := index_facts t
  unfold iblk S
  rw [View.read_apply]
  show V m c main_arg2 _ = _
  rw [V_main_arg2]
  congr 1
  funext a
  apply Fin.ext
  match a with
  | ⟨0, _⟩ => show win0_4.index t 0 * 8 + 1 * g.val = 8 * (t.val % 16) + g.val; rw [h0]; omega
  | ⟨1, _⟩ => show win0_4.index t 1 * 1024 + 1 * q.val = 1024 * (t.val / 16) + q.val; rw [h1]; omega

/-- The bias word every point loads. -/
theorem blk_word (t : Fin cfg0.N) : (iblk m c 0 t : Vec Ideal S1 .i32) (ix1 (0 : Fin 1)) = (V m c main_v6 : Vec Ideal S1 .i32) (ix1 (0 : Fin 1)) := by
  unfold iblk
  rw [View.read_apply]
  show V m c main_v6 _ = _
  congr 1
  funext a
  apply Fin.ext
  match a with
  | ⟨0, _⟩ => show win0_0.index t 0 * 1 + 1 * 0 = 0; rw [(index_facts t).1]

/-- The residual every point loads. -/
theorem blk_res (t : Fin cfg0.N) : (iblk m c 1 t : Vec Ideal S1 .f32) (ix1 (0 : Fin 1)) = (V m c main_v10 : Vec Ideal S1 .f32) (ix1 (0 : Fin 1)) := by
  unfold iblk
  rw [View.read_apply]
  show V m c main_v10 _ = _
  congr 1
  funext a
  apply Fin.ext
  match a with
  | ⟨0, _⟩ => show win0_1.index t 0 * 1 + 1 * 0 = 0; rw [(index_facts t).2.1]

/-! ## The bias word and the residual -/

/-- The part of the bias that goes into the exponent field: clipped to `[-126, 124]`. -/
def clipped (b : BitVec 32) : BitVec 32 := IntOp.minsi 124#32 (IntOp.maxsi 4294967170#32 b)

/-- The bias word, of the bias. -/
def wordOf (b : BitVec 32) : BitVec 32 := IntOp.muli (IntOp.shli .host (IntOp.addi (clipped b) 127#32) 7#32) 65537#32

/-- The residual, of the bias: two to what the clip leaves over. -/
def resOf (b : BitVec 32) : EReal :=
  FloatOps.hostPowf (F := Ideal) (φ := .f32) (FloatOps.ofBits .f32 0x40000000#32) (FloatOps.sitofp .f32 (IntOp.subi b (clipped b)))

/-- The bias word the host computes. -/
theorem V_word : (V m c main_v6 : Vec Ideal S1 .i32) (ix1 (0 : Fin 1)) = wordOf (B m c) := by
  unfold V
  after_reads_at
  rfl

/-- The residual the host computes. -/
theorem V_res : (V m c main_v10 : Vec Ideal S1 .f32) (ix1 (0 : Fin 1)) = resOf (B m c) := by
  unfold V
  after_reads_at
  rfl

/-- The clip, as a clip of the signed integer. -/
theorem clipped_toInt (b : BitVec 32) : (clipped b).toInt = min 124 (max (-126) b.toInt) := by
  have l0 : (4294967170#32).toInt = -126 := by decide
  have l1 : (124#32).toInt = 124 := by decide
  have h : (IntOp.maxsi 4294967170#32 b).toInt = max (-126) b.toInt := by
    unfold IntOp.maxsi
    simp only [BitVec.slt_eq_decide, decide_eq_true_eq, l0]
    split <;> omega
  unfold clipped IntOp.minsi
  simp only [BitVec.slt_eq_decide, decide_eq_true_eq, l1, h]
  split <;> omega

/-- The bias word, at every clipped bias: the exponent field in both halves. -/
theorem words : ∀ d : Fin 251, IntOp.muli (IntOp.shli .host (IntOp.addi (BitVec.ofInt 32 ((d.val : Int) - 126)) 127#32) 7#32) 65537#32
    = (BitVec.ofNat 32 (d.val + 1) <<< 7) * 65537#32 := by
  decide +kernel

/-- Both words of a bias: their two powers of two multiply to `2 ^ bias`. -/
theorem biased (b : BitVec 32) : Cert.Step.Biased b.toInt (wordOf b) (resOf b) := by
  have hc := clipped_toInt b
  have hb0 := BitVec.le_toInt b
  have hb1 := BitVec.toInt_lt (x := b)
  have hd : min 124 (max (-126) b.toInt) + 126 = (((min 124 (max (-126) b.toInt) + 126).toNat : Nat) : Int) := by omega
  have hl : (min 124 (max (-126) b.toInt) + 126).toNat < 251 := by omega
  generalize (min 124 (max (-126) b.toInt) + 126).toNat = d at hd hl
  have hw : clipped b = BitVec.ofInt 32 ((d : Int) - 126) := by
    rw [← BitVec.ofInt_toInt (x := clipped b), hc]
    congr 1
    omega
  have hs : (IntOp.subi b (clipped b)).toInt = b.toInt - ((d : Int) - 126) := by
    show (b - clipped b).toInt = _
    rw [BitVec.toInt_sub, hc]
    rw [Int.bmod_eq_of_le] <;> omega
  refine ⟨⟨d + 1, b.toInt - ((d : Int) - 126), by omega, by omega, by push_cast; omega, ?_, ?_⟩⟩
  · unfold wordOf
    rw [hw]
    exact words ⟨d, hl⟩
  · unfold resOf
    rw [Cert.Decode.host_power, hs]

/-- What every point loads. -/
theorem blk_biased (t : Fin cfg0.N) :
    Cert.Step.Biased (B m c).toInt ((iblk m c 0 t : Vec Ideal S1 .i32) (ix1 (0 : Fin 1)))
      ((iblk m c 1 t : Vec Ideal S1 .f32) (ix1 (0 : Fin 1))) := by
  rw [blk_word, blk_res, V_word, V_res]
  exact biased _

end Cert.Blocks
-- ==== Proof.Fold.lean ====
/- The running sum along a row of grid points, and the array the kernel's output ends as. -/
module

public import proofs.«01_k».proof.Proof.Blocks

@[expose] public section

set_option maxRecDepth 16384

noncomputable section

namespace Cert.Fold

open Idealize.ShloMosaic Idealize.ShloMosaic.TcCoe Idealize.SL.Sem
open Cert.KernelIdeal Cert.KernelIdeal.Gen Cert.KernelIdeal.Value Cert.Decode Cert.Step Cert.Blocks

variable (m : (ℓ : Loc nD τ sig) → Buf (Elt Ideal) ℓ) (c : Dev nD)

/-- A block of activations times a block of weights. -/
def product (x2 : Vec Ideal S4096x1024 .bf16) (W : Vec Ideal S1024x1024 .bf16) (y : S4096x1024.Idx) : EReal :=
  ∑ k : Fin 1024, x2 (ix2 (y 0) k) * W (ix2 k (y 1))

/-- What point `n` adds to the running sum: its block of activations times its block of weights. -/
def term (n : Nat) (y : S4096x1024.Idx) : EReal :=
  if h : n < cfg0.N then
    product (iblk m c 2 ⟨n, h⟩) (wBlock (B m c).toInt (iblk m c 3 ⟨n, h⟩) (iblk m c 4 ⟨n, h⟩)) y
  else 0

/-- One step is the term added. -/
theorem step_eq (n : Nat) (h : n < cfg0.N) (acc : Vec Ideal S4096x1024 .f32) (y : S4096x1024.Idx) :
    accStep (iblk m c 2 ⟨n, h⟩) (wBlock (B m c).toInt (iblk m c 3 ⟨n, h⟩) (iblk m c 4 ⟨n, h⟩)) acc y
      = (acc y : EReal) + term m c n y := by
  unfold term
  rw [dif_pos h]
  rfl

/-- The running sum after point `t`: the terms of its row of points up to it. -/
theorem sum_at (t : Fin cfg0.N) (y : S4096x1024.Idx) :
    (outsAt0 m c t.val t.isLt).2 y = ∑ s ∈ Finset.range (t.val % 16 + 1), term m c (16 * (t.val / 16) + s) y := by
  rw [soutsAt0_1_eq]
  refine (Pipeline.accAt_add_apply _ _ (fun _ => (0 : EReal)) (term m c) (16 * (t.val / 16)) 15 ?_ ?_ (t.val % 16) (by omega) _ y).trans
    (zero_add _)
  · intro h i
    unfold scAt0_1
    rw [dif_pos (by omega), dif_neg (by omega), sum_A (hb := blk_biased m c _)]
    exact step_eq m c _ h _ i
  · intro n h acc i hn hle
    unfold scAt0_1
    rw [dif_neg (by omega)]
    by_cases h15 : n % 16 = 15
    · rw [dif_pos h15, sum_C (hb := blk_biased m c _)]
      exact step_eq m c _ h _ i
    · rw [dif_neg h15, sum_B (hb := blk_biased m c _)]
      exact step_eq m c _ h _ i

/-- The output block at the last point of a row: the row's sixteen terms. -/
theorem out_at (t : Fin cfg0.N) (ht : t.val % 16 = 15) (y : S4096x1024.Idx) :
    (outsAt0 m c t.val t.isLt).1 y = ∑ s ∈ Finset.range 16, term m c (16 * (t.val / 16) + s) y := by
  have h2 := sum_at m c t y
  rw [ht] at h2
  rw [← h2, outsAt0_C m c t (by omega) ht]
  dsimp only
  rw [out_C (hb := blk_biased m c t), sum_C (hb := blk_biased m c t)]

end Cert.Fold
-- ==== Proof.Linear.lean ====
/- The linear layer both programs compute, as sums of extended reals, and its sum cut into sixteen blocks. -/
module

public import proofs.«01_k».proof.Proof.Decode

@[expose] public section

noncomputable section

namespace Cert.Linear

open Idealize.ShloMosaic Cert.Decode

/-- One product of the layer: activation `(r, k)` times decoded weight `(k, n)` times the scale of `k`'s group of 128. -/
def entry (X : Fin 4096 → Fin 16384 → EReal) (C : Fin 8192 → Fin 5120 → BitVec 8) (S : Fin 128 → Fin 5120 → EReal) (bias : Int)
    (r : Fin 4096) (n : Fin 5120) (k : Fin 16384) : EReal :=
  X r k * (((weight (C ⟨k.val / 2, by omega⟩ n) (k.val % 2) bias : ℝ) : EReal) * S ⟨k.val / 128, by omega⟩ n)

/-- A sum over the long axis, cut into sixteen blocks of 1024. -/
theorem blocks (f : Fin 16384 → EReal) (F : ℕ → EReal)
    (hF : ∀ s : Fin 16, F s.val = ∑ q : Fin 1024, f ⟨1024 * s.val + q.val, by omega⟩) :
    ∑ s ∈ Finset.range 16, F s = ∑ k : Fin 16384, f k := by
  rw [Finset.sum_range, Finset.sum_congr rfl fun s _ => hF s, ← Fintype.sum_prod_type', ← Equiv.sum_comp (finProdFinEquiv (m := 16) (n := 1024))]
  refine Finset.sum_congr rfl fun p _ => congrArg f (Fin.ext ?_)
  show 1024 * p.1.val + p.2.val = p.2.val + 1024 * p.1.val
  omega

end Cert.Linear
-- ==== Proof.Array.lean ====
/- The array the kernel's result ends as: every entry is the layer's sum. -/
module

public import proofs.«01_k».proof.Proof.Fold
public import proofs.«01_k».proof.Proof.Linear

@[expose] public section

set_option maxRecDepth 16384

noncomputable section

namespace Cert.Array

open Idealize.ShloMosaic Idealize.ShloMosaic.TcCoe Idealize.SL.Sem
open Cert.KernelIdeal Cert.KernelIdeal.Gen Cert.KernelIdeal.Value Cert.Decode Cert.Step Cert.Blocks Cert.Fold Cert.Linear

variable (m : (ℓ : Loc nD τ sig) → Buf (Elt Ideal) ℓ) (c : Dev nD)

/-- One product of a block of activations with a block of weights. -/
def factor (x2 : Vec Ideal S4096x1024 .bf16) (W : Vec Ideal S1024x1024 .bf16) (r : Fin 4096) (q k : Fin 1024) : EReal :=
  x2 (ix2 r k) * W (ix2 k q)

/-- One product of point `16 j + s`: row `k` of its weight block is row `1024 s + k` of the weights. -/
theorem factor_eq (j : Fin 5) (s : Fin 16) (h : 16 * j.val + s.val < cfg0.N) (r : Fin 4096) (q k : Fin 1024) :
    factor (iblk m c 2 ⟨16 * j.val + s.val, h⟩)
        (wBlock (B m c).toInt (iblk m c 3 ⟨16 * j.val + s.val, h⟩) (iblk m c 4 ⟨16 * j.val + s.val, h⟩)) r q k
      = entry (X m c) (C m c) (S m c) (B m c).toInt r ⟨1024 * j.val + q.val, by omega⟩ ⟨1024 * s.val + k.val, by omega⟩ := by
  have hm : (16 * j.val + s.val) % 16 = s.val := by omega
  have hd : (16 * j.val + s.val) / 16 = j.val := by omega
  unfold factor wBlock entry
  have e1 := blk_x m c ⟨16 * j.val + s.val, h⟩ r k
  have e2 := blk_codes m c ⟨16 * j.val + s.val, h⟩ ⟨k.val / 2, by omega⟩ q
  have e3 := blk_scale m c ⟨16 * j.val + s.val, h⟩ ⟨k.val / 128, by omega⟩ q
  simp only [hm, hd] at e1 e2 e3
  have i2 : 512 * s.val + k.val / 2 = (1024 * s.val + k.val) / 2 := by omega
  have i3 : 8 * s.val + k.val / 128 = (1024 * s.val + k.val) / 128 := by omega
  have i4 : k.val % 2 = (1024 * s.val + k.val) % 2 := by omega
  simp only [i2, i3] at e2 e3
  refine congrArg₂ (fun a b : EReal => a * b) e1 (congrArg₂ (fun a b : EReal => a * b) ?_ e3)
  refine congrArg (fun x : ℝ => (x : EReal)) ?_
  exact congrArg₂ (fun (b : BitVec 8) (p : Nat) => weight b p (B m c).toInt) e2 i4

/-- A point's term is its block of 1024 products of the layer. -/
theorem term_eq (j : Fin 5) (s : Fin 16) (r : Fin 4096) (q : Fin 1024) :
    term m c (16 * j.val + s.val) (ix2 r q)
      = ∑ k : Fin 1024, entry (X m c) (C m c) (S m c) (B m c).toInt r ⟨1024 * j.val + q.val, by omega⟩ ⟨1024 * s.val + k.val, by omega⟩ := by
  have h : 16 * j.val + s.val < cfg0.N := lt_of_lt_of_eq (by omega) N_0.symm
  unfold term
  rw [dif_pos h]
  exact Finset.sum_congr rfl fun k _ => factor_eq m c j s h r q k

/-- Entry `(r, n)` of the result after the run. -/
theorem array_eq (i : S4096x5120.Idx) :
    (G5 m c : Vec Ideal S4096x5120 .bf16) i
      = ∑ k : Fin 16384, entry (X m c) (C m c) (S m c) (B m c).toInt (i 0) (i 1) k := by
  have l0 : (i 0).val < 4096 := (i 0).isLt
  have l1 : (i 1).val < 5120 := (i 1).isLt
  have hp : pt5Of i = 16 * ((i 1).val / 1024) + 15 := by
    show 16 * (5 * ((i 0).val / 4096 - 0) + 1 * ((i 1).val / 1024 - 0)) + 15 = _
    omega
  have hN : pt5Of i < cfg0.N := lt_of_lt_of_eq (by omega) N_0.symm
  have ho := out_at m c ⟨pt5Of i, hN⟩ (by show pt5Of i % 16 = 15; omega) (loc5Of i)
  rw [outsAt0_sweep] at ho
  unfold G5
  rw [dif_pos hN]
  refine ho.trans (blocks _ _ fun s => ?_)
  have hd : pt5Of i / 16 = (i 1).val / 1024 := by omega
  show term m c (16 * (pt5Of i / 16) + s.val) (loc5Of i) = _
  have hl : loc5Of i = ix2 (i 0) ⟨(i 1).val % 1024, Nat.mod_lt _ (by decide)⟩ := by
    funext a
    match a with
    | ⟨0, _⟩ => exact Fin.ext (Nat.mod_eq_of_lt l0)
    | ⟨1, _⟩ => rfl
  rw [hd, hl]
  refine (term_eq m c ⟨(i 1).val / 1024, by omega⟩ s (i 0) ⟨(i 1).val % 1024, Nat.mod_lt _ (by decide)⟩).trans ?_
  have hn : (⟨1024 * ((i 1).val / 1024) + (i 1).val % 1024, by omega⟩ : Fin 5120) = i 1 := Fin.ext (by show 1024 * ((i 1).val / 1024) + (i 1).val % 1024 = (i 1).val; omega)
  refine Finset.sum_congr rfl fun k _ => ?_
  exact congrArg (fun n => entry (X m c) (C m c) (S m c) (B m c).toInt (i 0) n _) hn

end Cert.Array
-- ==== Proof.RefWeight.lean ====
/- One decoded weight of the reference, as the real number its code stands for. -/
module

public import proofs.«01_k».proof.Proof.Decode
public import proofs.«01_k».proof.Proof.Gen.ReferenceIdeal.Read

@[expose] public section

set_option maxRecDepth 16384

noncomputable section

namespace Cert.RefWeight

open Idealize.ShloMosaic Cert.Decode

/-! ## The reference's scalar formulas -/

/-- The reference's outlier: sign times `(2 + mantissa) · 2 ^ (exponent + bias − 1)`. -/
def refOutlier (w bb : BitVec 32) : EReal :=
  FloatOps.mulf (F := Ideal) (φ := .f32)
    (FloatOps.sitofp .f32 (IntOp.subi 1#32 (IntOp.muli 2#32 (IntOp.shrsi .host w 3#32))))
    (FloatOps.mulf (F := Ideal) (φ := .f32) (FloatOps.sitofp .f32 (IntOp.addi 2#32 (IntOp.andi (IntOp.andi w 7#32) 1#32)))
      (FloatOps.hostPowf (F := Ideal) (φ := .f32) (FloatOps.ofBits .f32 0x40000000#32)
        (FloatOps.sitofp .f32 (IntOp.subi (IntOp.addi (IntOp.shrsi .host (IntOp.andi w 7#32) 1#32) bb) 1#32))))

/-- The reference's signed four-bit integer. -/
def refSigned (w : BitVec 32) : EReal :=
  FloatOps.sitofp (F := Ideal) .f32 (IntOp.subi w (IntOp.muli 16#32 ((IntOp.cmpi .sge w 8#32).setWidth 32)))

/-- The reference's choice between the three. -/
def refHalf (own other bb : BitVec 32) : EReal :=
  Scalar.select (IntOp.cmpi .eq own 8#32) (FloatOps.ofBits (F := Ideal) .f32 0x00000000#32)
    (Scalar.select (IntOp.cmpi .eq other 8#32) (refOutlier own bb) (refSigned own))

/-- The integer parts of an outlier. -/
theorem outlier_parts : ∀ c : Fin 16,
    (IntOp.subi 1#32 (IntOp.muli 2#32 (IntOp.shrsi .host (BitVec.ofNat 32 c.val) 3#32))).toInt = (if 8 ≤ c.val then -1 else 1)
    ∧ (IntOp.addi 2#32 (IntOp.andi (IntOp.andi (BitVec.ofNat 32 c.val) 7#32) 1#32)).toInt = 2 + (c.val % 2 : Nat)
    ∧ IntOp.shrsi .host (IntOp.andi (BitVec.ofNat 32 c.val) 7#32) 1#32 = BitVec.ofNat 32 (c.val % 8 / 2) := by
  decide +kernel

/-- The signed integer. -/
theorem signed_part : ∀ c : Fin 16,
    (IntOp.subi (BitVec.ofNat 32 c.val) (IntOp.muli 16#32 ((IntOp.cmpi .sge (BitVec.ofNat 32 c.val) 8#32).setWidth 32))).toInt
      = (if 8 ≤ c.val then (c.val : Int) - 16 else (c.val : Int)) := by
  decide +kernel

/-- The test for the victim code. -/
theorem victim_test : ∀ c : Fin 16, IntOp.cmpi .eq (BitVec.ofNat 32 c.val) 8#32 = if c.val = 8 then 1#1 else 0#1 := by
  decide +kernel

/-- The exponent `e + bias − 1` does not wrap. -/
theorem exponent_part (e : Nat) (he : e < 4) (bb : BitVec 32) (h0 : -2147483647 ≤ bb.toInt) (h1 : bb.toInt ≤ 2147483645) :
    (IntOp.subi (IntOp.addi (BitVec.ofNat 32 e) bb) 1#32).toInt = (e : Int) + bb.toInt - 1 := by
  have hb := BitVec.toInt_eq_toNat_cond bb
  have hl := bb.isLt
  show ((BitVec.ofNat 32 e + bb) - 1#32).toInt = _
  rw [BitVec.toInt_eq_toNat_cond]
  simp only [BitVec.toNat_sub, BitVec.toNat_add, BitVec.toNat_ofNat]
  split at hb <;> split <;> omega

/-- The reference's outlier is the code's outlier. -/
theorem refOutlier_eq (c : Nat) (hc : c < 16) (bb : BitVec 32) (h0 : -2147483647 ≤ bb.toInt) (h1 : bb.toInt ≤ 2147483645) :
    refOutlier (BitVec.ofNat 32 c) bb = ((outlier c bb.toInt : ℝ) : EReal) := by
  obtain ⟨p1, p2, p3⟩ := outlier_parts ⟨c, hc⟩
  unfold refOutlier
  rw [p3, host_power, exponent_part _ (by omega) bb h0 h1]
  show (((_ : Int) : ℝ) : EReal) * ((((_ : Int) : ℝ) : EReal) * _) = _
  rw [p1, p2, ← EReal.coe_mul, ← EReal.coe_mul]
  refine congrArg (fun x : ℝ => (x : EReal)) ?_
  unfold outlier
  push_cast
  rfl

/-- The reference's signed integer is the code's. -/
theorem refSigned_eq (c : Nat) (hc : c < 16) : refSigned (BitVec.ofNat 32 c) = ((signed c : ℝ) : EReal) := by
  unfold refSigned
  show (((_ : Int) : ℝ) : EReal) = _
  rw [signed_part ⟨c, hc⟩]
  refine congrArg (fun x : ℝ => (x : EReal)) ?_
  unfold signed
  push_cast
  rfl

/-- One half of a byte, decoded by the reference. -/
theorem refHalf_eq (own other : Nat) (ho : own < 16) (ht : other < 16) (bb : BitVec 32) (h0 : -2147483647 ≤ bb.toInt)
    (h1 : bb.toInt ≤ 2147483645) :
    refHalf (BitVec.ofNat 32 own) (BitVec.ofNat 32 other) bb = ((half own other bb.toInt : ℝ) : EReal) := by
  unfold refHalf half
  rw [victim_test ⟨own, ho⟩, victim_test ⟨other, ht⟩, refOutlier_eq own ho bb h0 h1, refSigned_eq own ho]
  dsimp only
  by_cases e1 : own = 8
  · rw [if_pos e1, if_pos e1]
    exact Ideal.ofBits_zero_f32
  · rw [if_neg e1, if_neg e1]
    by_cases e2 : other = 8
    · rw [if_pos e2, if_pos e2]
      rfl
    · rw [if_neg e2, if_neg e2]
      rfl

/-- The two codes of a byte. -/
theorem codes_of : ∀ n : Fin 256,
    IntOp.andi ((BitVec.ofNat 8 n.val).setWidth 32) 15#32 = BitVec.ofNat 32 (n.val % 16)
    ∧ IntOp.shrsi .host ((BitVec.ofNat 8 n.val).setWidth 32) 4#32 = BitVec.ofNat 32 (n.val / 16) := by
  decide +kernel

/-- The low half of a byte. -/
theorem low_eq (b : BitVec 8) (bb : BitVec 32) (h0 : -2147483647 ≤ bb.toInt) (h1 : bb.toInt ≤ 2147483645) :
    refHalf (IntOp.andi (b.setWidth 32) 15#32) (IntOp.shrsi .host (b.setWidth 32) 4#32) bb = ((weight b 0 bb.toInt : ℝ) : EReal) := by
  have hb := b.isLt
  have h := codes_of ⟨b.toNat, hb⟩
  rw [BitVec.ofNat_toNat, BitVec.setWidth_eq] at h
  rw [h.1, h.2]
  exact refHalf_eq _ _ (by dsimp only; omega) (by dsimp only; omega) bb h0 h1

/-- The high half of a byte. -/
theorem high_eq (b : BitVec 8) (bb : BitVec 32) (h0 : -2147483647 ≤ bb.toInt) (h1 : bb.toInt ≤ 2147483645) :
    refHalf (IntOp.shrsi .host (b.setWidth 32) 4#32) (IntOp.andi (b.setWidth 32) 15#32) bb = ((weight b 1 bb.toInt : ℝ) : EReal) := by
  have hb := b.isLt
  have h := codes_of ⟨b.toNat, hb⟩
  rw [BitVec.ofNat_toNat, BitVec.setWidth_eq] at h
  rw [h.1, h.2]
  exact refHalf_eq _ _ (by dsimp only; omega) (by dsimp only; omega) bb h0 h1

/-! ## The reference's arrays of decoded codes -/

open Cert.ReferenceIdeal Cert.ReferenceIdeal.Read

/-- The bias, as the reference reads it. -/
theorem bias_read (x3 : (⟨S1, .i32⟩ : BufTy).Contents (Elt Ideal)) (j : S_.Idx) :
    val_main_v0 (F := Ideal) x3 j = x3 (ix1 (0 : Fin 1)) := by
  refine congrArg x3 (funext fun a => Fin.ext ?_)
  match a with
  | ⟨0, h⟩ => exact Nat.lt_one_iff.mp (Fin.isLt _)

/-- The low codes, decoded. -/
theorem v82_eq (x1 : (⟨S8192x5120, .i8⟩ : BufTy).Contents (Elt Ideal)) (x3 : (⟨S1, .i32⟩ : BufTy).Contents (Elt Ideal)) (i : S8192x5120.Idx) :
    val_main_v82 (F := Ideal) x1 x3 i = refHalf (IntOp.andi ((x1 i).setWidth 32) 15#32) (IntOp.shrsi .host ((x1 i).setWidth 32) 4#32) (x3 (ix1 (0 : Fin 1))) := by
  simp only [val_main_v1_apply, val_main_c_apply, val_main_v2_apply, val_main_v3_apply, val_main_c_0_apply, val_main_v4_apply,
    val_main_v5_apply, val_main_c_1_apply, val_main_v6_apply, val_main_v7_apply, val_main_c_2_apply, val_main_v8_apply,
    val_main_v9_apply, val_main_c_3_apply, val_main_v10_apply, val_main_v11_apply, val_main_c_4_apply, val_main_v12_apply,
    val_main_v13_apply, val_main_c_5_apply, val_main_v14_apply, val_main_v15_apply, val_main_c_6_apply, val_main_v16_apply,
    val_main_v17_apply, val_main_c_7_apply, val_main_v18_apply, val_main_v19_apply, val_main_v20_apply, val_main_v21_apply,
    val_main_v22_apply, val_main_c_8_apply, val_main_v23_apply, val_main_v24_apply, val_main_v25_apply, val_main_cst_apply,
    val_main_v26_apply, val_main_v27_apply, val_main_v28_apply, val_main_c_9_apply, val_main_v29_apply, val_main_v30_apply,
    val_main_c_10_apply, val_main_v31_apply, val_main_v32_apply, val_main_v33_apply, val_main_v34_apply, val_main_c_11_apply,
    val_main_v35_apply, val_main_v36_apply, val_main_v37_apply, val_main_c_12_apply, val_main_v38_apply, val_main_v39_apply,
    val_main_v40_apply, val_main_v41_apply, val_main_v42_apply, val_main_cst_13_apply, val_main_call1_v0_apply, val_main_v43_apply,
    val_main_c_14_apply, val_main_v44_apply, val_main_v45_apply, val_main_c_15_apply, val_main_v46_apply, val_main_v47_apply,
    val_main_c_16_apply, val_main_v48_apply, val_main_v49_apply, val_main_c_17_apply, val_main_v50_apply, val_main_v51_apply,
    val_main_c_18_apply, val_main_v52_apply, val_main_v53_apply, val_main_c_19_apply, val_main_v54_apply, val_main_v55_apply,
    val_main_c_20_apply, val_main_v56_apply, val_main_v57_apply, val_main_v58_apply, val_main_v59_apply, val_main_v60_apply,
    val_main_c_21_apply, val_main_v61_apply, val_main_v62_apply, val_main_v63_apply, val_main_cst_22_apply, val_main_v64_apply,
    val_main_v65_apply, val_main_v66_apply, val_main_c_23_apply, val_main_v67_apply, val_main_v68_apply, val_main_c_24_apply,
    val_main_v69_apply, val_main_v70_apply, val_main_v71_apply, val_main_v72_apply, val_main_c_25_apply, val_main_v73_apply,
    val_main_v74_apply, val_main_v75_apply, val_main_c_26_apply, val_main_v76_apply, val_main_v77_apply, val_main_v78_apply,
    val_main_v79_apply, val_main_v80_apply, val_main_cst_27_apply, val_main_call3_v0_apply, val_main_v81_apply, val_main_v82_apply,
    val_main_v83_apply, bias_read]
  rfl

/-- The high codes, decoded. -/
theorem v83_eq (x1 : (⟨S8192x5120, .i8⟩ : BufTy).Contents (Elt Ideal)) (x3 : (⟨S1, .i32⟩ : BufTy).Contents (Elt Ideal)) (i : S8192x5120.Idx) :
    val_main_v83 (F := Ideal) x1 x3 i = refHalf (IntOp.shrsi .host ((x1 i).setWidth 32) 4#32) (IntOp.andi ((x1 i).setWidth 32) 15#32) (x3 (ix1 (0 : Fin 1))) := by
  simp only [val_main_v1_apply, val_main_c_apply, val_main_v2_apply, val_main_v3_apply, val_main_c_0_apply, val_main_v4_apply,
    val_main_v5_apply, val_main_c_1_apply, val_main_v6_apply, val_main_v7_apply, val_main_c_2_apply, val_main_v8_apply,
    val_main_v9_apply, val_main_c_3_apply, val_main_v10_apply, val_main_v11_apply, val_main_c_4_apply, val_main_v12_apply,
    val_main_v13_apply, val_main_c_5_apply, val_main_v14_apply, val_main_v15_apply, val_main_c_6_apply, val_main_v16_apply,
    val_main_v17_apply, val_main_c_7_apply, val_main_v18_apply, val_main_v19_apply, val_main_v20_apply, val_main_v21_apply,
    val_main_v22_apply, val_main_c_8_apply, val_main_v23_apply, val_main_v24_apply, val_main_v25_apply, val_main_cst_apply,
    val_main_v26_apply, val_main_v27_apply, val_main_v28_apply, val_main_c_9_apply, val_main_v29_apply, val_main_v30_apply,
    val_main_c_10_apply, val_main_v31_apply, val_main_v32_apply, val_main_v33_apply, val_main_v34_apply, val_main_c_11_apply,
    val_main_v35_apply, val_main_v36_apply, val_main_v37_apply, val_main_c_12_apply, val_main_v38_apply, val_main_v39_apply,
    val_main_v40_apply, val_main_v41_apply, val_main_v42_apply, val_main_cst_13_apply, val_main_call1_v0_apply, val_main_v43_apply,
    val_main_c_14_apply, val_main_v44_apply, val_main_v45_apply, val_main_c_15_apply, val_main_v46_apply, val_main_v47_apply,
    val_main_c_16_apply, val_main_v48_apply, val_main_v49_apply, val_main_c_17_apply, val_main_v50_apply, val_main_v51_apply,
    val_main_c_18_apply, val_main_v52_apply, val_main_v53_apply, val_main_c_19_apply, val_main_v54_apply, val_main_v55_apply,
    val_main_c_20_apply, val_main_v56_apply, val_main_v57_apply, val_main_v58_apply, val_main_v59_apply, val_main_v60_apply,
    val_main_c_21_apply, val_main_v61_apply, val_main_v62_apply, val_main_v63_apply, val_main_cst_22_apply, val_main_v64_apply,
    val_main_v65_apply, val_main_v66_apply, val_main_c_23_apply, val_main_v67_apply, val_main_v68_apply, val_main_c_24_apply,
    val_main_v69_apply, val_main_v70_apply, val_main_v71_apply, val_main_v72_apply, val_main_c_25_apply, val_main_v73_apply,
    val_main_v74_apply, val_main_v75_apply, val_main_c_26_apply, val_main_v76_apply, val_main_v77_apply, val_main_v78_apply,
    val_main_v79_apply, val_main_v80_apply, val_main_cst_27_apply, val_main_call3_v0_apply, val_main_v81_apply, val_main_v82_apply,
    val_main_v83_apply, bias_read]
  rfl

end Cert.RefWeight
-- ==== Proof.Reference.lean ====
/- The reference's result: every entry is the layer's sum. -/
module

public import proofs.«01_k».proof.Proof.RefWeight
public import proofs.«01_k».proof.Proof.Linear

@[expose] public section

set_option maxRecDepth 16384

noncomputable section

namespace Cert.Reference

open Idealize.ShloMosaic Cert.Decode Cert.RefWeight Cert.Linear
open Cert.ReferenceIdeal Cert.ReferenceIdeal.Gen Cert.ReferenceIdeal.Read

variable (x0 : (⟨S2x2048x16384, .bf16⟩ : BufTy).Contents (Elt Ideal)) (x1 : (⟨S8192x5120, .i8⟩ : BufTy).Contents (Elt Ideal))
  (x2 : (⟨S128x5120, .f32⟩ : BufTy).Contents (Elt Ideal)) (x3 : (⟨S1, .i32⟩ : BufTy).Contents (Elt Ideal))

/-- The bias word. -/
abbrev bias : BitVec 32 := x3 (ix1 (0 : Fin 1))

/-- The two halves of byte `p` stand at places 0 and 1 of the middle axis. -/
theorem halves_eq (h0 : -2147483647 ≤ (bias x3).toInt) (h1 : (bias x3).toInt ≤ 2147483645) (p : Fin 8192) (e : Fin 2) (n : Fin 5120) :
    (val_main_v86 (F := Ideal) x1 x3 : Vec Ideal S8192x2x5120 .bf16) (ix3 p e n)
      = ((weight (x1 (ix2 p n)) e.val (bias x3).toInt : ℝ) : EReal) := by
  unfold val_main_v86
  match e with
  | ⟨0, _⟩ =>
    refine (concatenate_pair_apply_left (t := S8192x2x5120) (s₁ := S8192x1x5120) (s₂ := S8192x1x5120) 1 _ _ concatenates_S8192x1x5120_S8192x1x5120_S8192x2x5120_d1 _ rfl
      ((ix3 p (0 : Fin 1) n : S8192x1x5120.Idx)) fun b => by match b with | ⟨0, _⟩ => rfl | ⟨1, _⟩ => rfl | ⟨2, _⟩ => rfl).trans ?_
    rw [val_main_v84_apply, v82_eq, low_eq _ _ h0 h1]
    refine congrArg (fun b : BitVec 8 => ((weight b 0 (bias x3).toInt : ℝ) : EReal)) (congrArg x1 (funext fun a => ?_))
    match a with
    | ⟨0, _⟩ => rfl
    | ⟨1, _⟩ => rfl
  | ⟨1, _⟩ =>
    refine (concatenate_pair_apply_right (t := S8192x2x5120) (s₁ := S8192x1x5120) (s₂ := S8192x1x5120) 1 _ _ concatenates_S8192x1x5120_S8192x1x5120_S8192x2x5120_d1 _ rfl rfl
      ((ix3 p (0 : Fin 1) n : S8192x1x5120.Idx)) (fun b hb => by match b with | ⟨0, _⟩ => rfl | ⟨1, _⟩ => exact absurd rfl hb | ⟨2, _⟩ => rfl) rfl).trans ?_
    rw [val_main_v85_apply, v83_eq, high_eq _ _ h0 h1]
    refine congrArg (fun b : BitVec 8 => ((weight b 1 (bias x3).toInt : ℝ) : EReal)) (congrArg x1 (funext fun a => ?_))
    match a with
    | ⟨0, _⟩ => rfl
    | ⟨1, _⟩ => rfl

/-- Row `k` of the decoded weights: half `k % 2` of byte `k / 2`, times the scale of group `k / 128`. -/
theorem weights_eq (h0 : -2147483647 ≤ (bias x3).toInt) (h1 : (bias x3).toInt ≤ 2147483645) (k : Fin 16384) (n : Fin 5120) :
    (val_main_v92 (F := Ideal) x1 x2 x3 : Vec Ideal S16384x5120 .bf16) (ix2 k n)
      = ((weight (x1 (ix2 ⟨k.val / 2, by omega⟩ n)) (k.val % 2) (bias x3).toInt : ℝ) : EReal) * x2 (ix2 ⟨k.val / 128, by omega⟩ n) := by
  rw [val_main_v92_apply, val_main_v91_apply, val_main_v88_apply, val_main_v90_apply, val_main_v89_apply, val_main_v87_apply]
  refine congrArg₂ (fun a b : EReal => a * b) ?_ ?_
  · have e : idx_main_v88 (idx_main_v92 (ix2 k n)) = ix3 ⟨k.val / 2, by omega⟩ ⟨k.val % 2, by omega⟩ n := by
      have hk := k.isLt
      have hn := n.isLt
      funext a
      match a with
      | ⟨0, _⟩ => exact Fin.ext (by show (((k.val * 5120 + n.val) / 655360 * 128 + (k.val * 5120 + n.val) / 5120 % 128) * 5120 + (k.val * 5120 + n.val) % 5120) / 10240 = k.val / 2; omega)
      | ⟨1, _⟩ => exact Fin.ext (by show (((k.val * 5120 + n.val) / 655360 * 128 + (k.val * 5120 + n.val) / 5120 % 128) * 5120 + (k.val * 5120 + n.val) % 5120) / 5120 % 2 = k.val % 2; omega)
      | ⟨2, _⟩ => exact Fin.ext (by show (((k.val * 5120 + n.val) / 655360 * 128 + (k.val * 5120 + n.val) / 5120 % 128) * 5120 + (k.val * 5120 + n.val) % 5120) % 5120 = n.val; omega)
    rw [e]
    exact halves_eq x1 x3 h0 h1 _ _ n
  · show x2 _ = x2 _
    have hk := k.isLt
    have hn := n.isLt
    refine congrArg x2 (funext fun a => ?_)
    match a with
    | ⟨0, _⟩ => exact Fin.ext (by show (k.val * 5120 + n.val) / 655360 = k.val / 128; omega)
    | ⟨1, _⟩ => exact Fin.ext (by show (k.val * 5120 + n.val) % 5120 = n.val; omega)

/-- Entry `(r, n)` of the reference's result. -/
theorem result_eq (h0 : -2147483647 ≤ (bias x3).toInt) (h1 : (bias x3).toInt ≤ 2147483645) (i : S4096x5120.Idx) :
    (val_main_v95 (F := Ideal) x0 x1 x2 x3 : Vec Ideal S4096x5120 .bf16) i
      = ∑ k : Fin 16384, entry (fun r k => x0 (ix3 ⟨r.val / 2048, by omega⟩ ⟨r.val % 2048, by omega⟩ k)) (fun p n => x1 (ix2 p n))
          (fun g n => x2 (ix2 g n)) (bias x3).toInt (i 0) (i 1) k := by
  have l0 : (i 0).val < 4096 := (i 0).isLt
  have l1 : (i 1).val < 5120 := (i 1).isLt
  rw [val_main_v95_apply, val_main_v94_apply, val_main_v93_apply]
  refine Finset.sum_congr rfl fun k _ => ?_
  have el : lidx_main_v93 (idx_main_v95 i) k = ix3 ⟨(i 0).val / 2048, by omega⟩ ⟨(i 0).val % 2048, by omega⟩ k := by
    funext a
    match a with
    | ⟨0, _⟩ => exact Fin.ext (by show ((i 0).val * 5120 + (i 1).val) / 10485760 = (i 0).val / 2048; omega)
    | ⟨1, _⟩ => exact Fin.ext (by show ((i 0).val * 5120 + (i 1).val) / 5120 % 2048 = (i 0).val % 2048; omega)
    | ⟨2, _⟩ => rfl
  have er : ridx_main_v93 (idx_main_v95 i) k = ix2 k (i 1) := by
    funext a
    match a with
    | ⟨0, _⟩ => rfl
    | ⟨1, _⟩ => exact Fin.ext (by show ((i 0).val * 5120 + (i 1).val) % 5120 = (i 1).val; omega)
  rw [el, er]
  exact congrArg (fun w : EReal => x0 _ * w) (weights_eq x1 x2 x3 h0 h1 k (i 1))

end Cert.Reference
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_bias_in_range
public import proofs.«01_k».proof.Proof.Array
public import proofs.«01_k».proof.Proof.Reference
public import Idealize.ShloMosaic.Adequacy
public import Idealize.ShloMosaic.Init
public import Idealize.ShloMosaic.Lib.Bf16Pair

@[expose] public section

noncomputable section

namespace Cert.Proof

open Idealize.ShloMosaic Idealize.SL.Sem

/-- The reference runs, leaves its arguments unchanged, and has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same, wherever the reference's 32-bit exponent does not wrap. -/
theorem frame_reference_pre : Cert.quiescent_ReferenceIdeal_pre_bias_in_range (hReferenceIdeal := Cert.ReferenceIdeal.Gen.facts)
    (hPre_bias_in_range := Cert.Pre_bias_in_range.Gen.facts) := fun m ρ _ => frame_reference m ρ trivial

/-- The packed pairs of bf16 numbers are read as their two halves. -/
theorem preserves : Cert.preserves_Kernel_KernelIdeal :=
  ⟨IdealRules.bf16_pair.statement Cert.KernelIdeal.S128x1024 Cert.KernelIdeal.S64x1024,
    IdealRules.bf16_pair.selectZeroStatement Cert.KernelIdeal.S64x1024⟩

/-- The precondition, read: the bias is a signed integer between -2147483647 and 2147483645. -/
theorem bias_range (a0 : FVec Ideal Cert.Pre_bias_in_range.S2x2048x16384 .bf16) (a1 : IVec Cert.Pre_bias_in_range.S8192x5120 8)
    (a2 : FVec Ideal Cert.Pre_bias_in_range.S128x5120 .f32) (a3 : IVec Cert.Pre_bias_in_range.S1 32)
    (h : Cert.Pre_bias_in_range.fn (F := Ideal) a0 a1 a2 a3 = fun _ => 1#1) :
    -2147483647 ≤ (a3 (ix1 (0 : Fin 1))).toInt ∧ (a3 (ix1 (0 : Fin 1))).toInt ≤ 2147483645 := by
  have hi := congrFun h (ix1 (0 : Fin 1))
  simp only [Cert.Pre_bias_in_range.fn, cmpi, andi, broadcastInDim, constantI] at hi
  rw [show ∀ x y : BitVec 32, IntOp.cmpi .sge x y = BitVec.ofBool (decide (y.toInt ≤ x.toInt)) from fun _ _ => rfl,
    show ∀ x y : BitVec 32, IntOp.cmpi .sle x y = BitVec.ofBool (decide (x.toInt ≤ y.toInt)) from fun _ _ => rfl] at hi
  have l0 : (2147483649#32).toInt = -2147483647 := by decide
  have l1 : (2147483645#32).toInt = 2147483645 := by decide
  rw [l0, l1] at hi
  by_cases c0 : -2147483647 ≤ (a3 (ix1 (0 : Fin 1))).toInt
  · by_cases c1 : (a3 (ix1 (0 : Fin 1))).toInt ≤ 2147483645
    · exact ⟨c0, c1⟩
    · rw [decide_eq_true c0, decide_eq_false c1] at hi
      exact absurd hi (by decide)
  · rw [decide_eq_false c0] at hi
    by_cases c1 : (a3 (ix1 (0 : Fin 1))).toInt ≤ 2147483645
    · rw [decide_eq_true c1] at hi
      exact absurd hi (by decide)
    · rw [decide_eq_false c1] at hi
      exact absurd hi (by decide)

/-- The idealized kernel and the reference end with the same result: at every entry, the layer's sum of products. -/
theorem algebraic : Cert.algebraic_KernelIdeal_ReferenceIdeal_pre_bias_in_range (hKernelIdeal := Cert.KernelIdeal.Gen.facts)
    (hReferenceIdeal := Cert.ReferenceIdeal.Gen.facts) (hPre_bias_in_range := Cert.Pre_bias_in_range.Gen.facts) := by
  intro m g m' g' hpre hagree
  refine ⟨fun c => Cert.KernelIdeal.Value.G5 m c, Cert.KernelIdeal.Value.run m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3⟩ := hagree c
  obtain ⟨b0, b1⟩ := bias_range _ _ _ _ (hpre c)
  rw [Cert.ReferenceIdeal.Read.val_main_v95_eq, e0, e1, e2, e3]
  funext i
  exact (Cert.Reference.result_eq _ _ _ _ b0 b1 i).trans (Cert.Array.array_eq m c i).symm

/-- All the claims together. -/
theorem claim : Cert.Claim :=
  ⟨Cert.Kernel.Gen.facts, Cert.KernelIdeal.Gen.facts, Cert.ReferenceIdeal.Gen.facts, Cert.Pre_bias_in_range.Gen.facts,
    fun m ρ _ => Cert.Kernel.Gen.frame m ρ, fun m ρ _ => Cert.KernelIdeal.Gen.frame m ρ,
    fun m ρ _ => Cert.KernelIdeal.Gen.frame m ρ, frame_reference, frame_reference_pre, preserves, algebraic⟩

end Cert.Proof

end
